-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_increasing [hPre_finite_and_increasing : Cert.Pre_finite_and_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_increasing [hPre_finite_and_increasing : Cert.Pre_finite_and_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_increasing [hKernelIdeal : Cert.KernelIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_increasing [hReferenceIdeal : Cert.ReferenceIdeal.Facts] [hPre_finite_and_increasing : Cert.Pre_finite_and_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_increasing [hKernelIdeal : Cert.KernelIdeal.Facts] [hReferenceIdeal : Cert.ReferenceIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_increasing : Cert.Pre_finite_and_increasing.Facts),
    quiescent_Kernel (hKernel := hKernel)
    ∧ quiescent_KernelIdeal (hKernelIdeal := hKernelIdeal)
    ∧ quiescent_KernelIdeal_pre_finite_and_increasing (hKernelIdeal := hKernelIdeal) (hPre_finite_and_increasing := hPre_finite_and_increasing)
    ∧ quiescent_ReferenceIdeal (hReferenceIdeal := hReferenceIdeal)
    ∧ quiescent_ReferenceIdeal_pre_finite_and_increasing (hReferenceIdeal := hReferenceIdeal) (hPre_finite_and_increasing := hPre_finite_and_increasing)
    ∧ preserves_Kernel_KernelIdeal
    ∧ algebraic_KernelIdeal_ReferenceIdeal_pre_finite_and_increasing (hKernelIdeal := hKernelIdeal) (hReferenceIdeal := hReferenceIdeal) (hPre_finite_and_increasing := hPre_finite_and_increasing)
-- ==== Pre_finite_and_increasing.lean ====
abbrev S65536x256 : Shape := ⟨2, ![65536, 256]⟩
abbrev S256x256 : Shape := ⟨2, ![256, 256]⟩
abbrev S4 : Shape := ⟨1, ![4]⟩
abbrev S_ : Shape := ⟨0, ![]⟩
abbrev S3 : Shape := ⟨1, ![3]⟩

class Facts : Prop where
  bcast_S_S256x256 : S_.BroadcastsInDim S256x256 (![] : Fin 0 → Fin S256x256.rank)
  slices_S4_S3_0 : S4.Slices ![0] S3
  slices_S4_S3_1 : S4.Slices ![1] S3

variable [Facts]

def fn {F : FTy → Type} [FloatOps F] (main_arg0 : FVec F S65536x256 .f32) (main_arg1 : FVec F S256x256 .f32) (main_arg2 : FVec F S4 .f32) (main_arg3 : FVec F S4 .f32) : IVec S256x256 1 × IVec S3 1 × IVec S3 1 :=
  let main_v0 : FVec F S256x256 .f32 := Host.absf main_arg1
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_v3 : FVec F S3 .f32 := (extractStridedSlice S3 ![0] · slices_S4_S3_0) main_arg2
  let main_v4 : FVec F S3 .f32 := (extractStridedSlice S3 ![1] · slices_S4_S3_1) main_arg2
  let main_v5 : IVec S3 1 := cmpf .olt main_v3 main_v4
  let main_v6 : FVec F S3 .f32 := (extractStridedSlice S3 ![0] · slices_S4_S3_0) main_arg3
  let main_v7 : FVec F S3 .f32 := (extractStridedSlice S3 ![1] · slices_S4_S3_1) main_arg3
  let main_v8 : IVec S3 1 := cmpf .olt main_v6 main_v7
  (main_v2, main_v5, main_v8)
-- ==== Kernel.lean ====
abbrev S65536x256 : Shape := ⟨2, ![65536, 256]⟩
abbrev S256x256 : Shape := ⟨2, ![256, 256]⟩
abbrev S4 : Shape := ⟨1, ![4]⟩
abbrev S65536 : Shape := ⟨1, ![65536]⟩
abbrev S4096x256 : Shape := ⟨2, ![4096, 256]⟩
abbrev S4096 : Shape := ⟨1, ![4096]⟩
abbrev S128x128 : Shape := ⟨2, ![128, 128]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S128x1 : Shape := ⟨2, ![128, 1]⟩
abbrev S1x128 : Shape := ⟨2, ![1, 128]⟩
abbrev S8x128 : Shape := ⟨2, ![8, 128]⟩

abbrev nBuf : Space → Nat
  | .hbm => 8
  | .vmem => 11
  | .smem => 2
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S4, .f32⟩
  | .hbm, ⟨3, _⟩ => ⟨S4, .f32⟩
  | .hbm, ⟨4, _⟩ => ⟨S65536x256, .f32⟩
  | .hbm, ⟨5, _⟩ => ⟨S65536x256, .i32⟩
  | .hbm, ⟨6, _⟩ => ⟨S65536x256, .i32⟩
  | .hbm, ⟨7, _⟩ => ⟨S65536, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | .local _ .vmem, ⟨5, _⟩ => ⟨S4096x256, .i32⟩
  | .local _ .vmem, ⟨6, _⟩ => ⟨S4096x256, .i32⟩
  | .local _ .vmem, ⟨7, _⟩ => ⟨S4096x256, .i32⟩
  | .local _ .vmem, ⟨8, _⟩ => ⟨S4096x256, .i32⟩
  | .local _ .vmem, ⟨9, _⟩ => ⟨S4096, .f32⟩
  | .local _ .vmem, ⟨10, _⟩ => ⟨S4096, .f32⟩
  | .local _ .smem, ⟨0, _⟩ => ⟨S4, .f32⟩
  | .local _ .smem, ⟨1, _⟩ => ⟨S4, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S65536x256 : Shape := ⟨2, ![65536, 256]⟩
abbrev S256x256 : Shape := ⟨2, ![256, 256]⟩
abbrev S4 : Shape := ⟨1, ![4]⟩
abbrev S_ : Shape := ⟨0, ![]⟩
abbrev S65536 : Shape := ⟨1, ![65536]⟩
abbrev S65536x1 : Shape := ⟨2, ![65536, 1]⟩
abbrev S65536x256x1 : Shape := ⟨3, ![65536, 256, 1]⟩
abbrev S1x1x4 : Shape := ⟨3, ![1, 1, 4]⟩
abbrev S65536x256x4 : Shape := ⟨3, ![65536, 256, 4]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S4, .f32⟩
  | .hbm, ⟨3, _⟩ => ⟨S4, .f32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x256, .f32⟩
  | .hbm, ⟨13, _⟩ => ⟨S65536x256, .f32⟩
  | .hbm, ⟨14, _⟩ => ⟨S256x256, .f32⟩
  | .hbm, ⟨15, _⟩ => ⟨S65536x256, .f32⟩
  | .hbm, ⟨16, _⟩ => ⟨S65536x256x1, .f32⟩
  | .hbm, ⟨17, _⟩ => ⟨S1x1x4, .f32⟩
  | .hbm, ⟨18, _⟩ => ⟨S65536x256x4, .f32⟩
  | .hbm, ⟨19, _⟩ => ⟨S65536x256x4, .f32⟩
  | .hbm, ⟨20, _⟩ => ⟨S65536x256x4, .f32⟩
  | .hbm, ⟨21, _⟩ => ⟨S65536x256x4, .f32⟩
  | .hbm, ⟨22, _⟩ => ⟨S65536x256x4, .i32⟩
  | .hbm, ⟨23, _⟩ => ⟨S_, .f32⟩
  | .hbm, ⟨24, _⟩ => ⟨S_, .i32⟩
  | .hbm, ⟨25, _⟩ => ⟨S65536x256, .f32⟩
  | .hbm, ⟨26, _⟩ => ⟨S65536x256, .i32⟩
  | .hbm, ⟨27, _⟩ => ⟨S_, .i32⟩
  | .hbm, ⟨28, _⟩ => ⟨S65536x256, .i32⟩
  | .hbm, ⟨29, _⟩ => ⟨S65536x256, .i1⟩
  | .hbm, ⟨30, _⟩ => ⟨S_, .i32⟩
  | .hbm, ⟨31, _⟩ => ⟨S65536x256, .i32⟩
  | .hbm, ⟨32, _⟩ => ⟨S65536x256, .i32⟩
  | .hbm, ⟨33, _⟩ => ⟨S65536x256, .i32⟩
  | .hbm, ⟨34, _⟩ => ⟨S65536x256x1, .i32⟩
  | .hbm, ⟨35, _⟩ => ⟨S1, .i32⟩
  | .hbm, ⟨36, _⟩ => ⟨S_, .i32⟩
  | .hbm, ⟨37, _⟩ => ⟨S65536x256x1, .i32⟩
  | .hbm, ⟨38, _⟩ => ⟨S65536x256x1, .i1⟩
  | .hbm, ⟨39, _⟩ => ⟨S1x1x1, .i32⟩
  | .hbm, ⟨40, _⟩ => ⟨S65536x256x1, .i32⟩
  | .hbm, ⟨41, _⟩ => ⟨S65536x256x1, .i1⟩
  | .hbm, ⟨42, _⟩ => ⟨S65536x256x1, .i1⟩
  | .hbm, ⟨43, _⟩ => ⟨S_, .i1⟩
  | .hbm, ⟨44, _⟩ => ⟨S65536x256, .i1⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256x1, .f32⟩
  | .hbm, ⟨51, _⟩ => ⟨S1x1x4, .f32⟩
  | .hbm, ⟨52, _⟩ => ⟨S65536x256x4, .f32⟩
  | .hbm, ⟨53, _⟩ => ⟨S65536x256x4, .f32⟩
  | .hbm, ⟨54, _⟩ => ⟨S65536x256x4, .f32⟩
  | .hbm, ⟨55, _⟩ => ⟨S65536x256x4, .f32⟩
  | .hbm, ⟨56, _⟩ => ⟨S65536x256x4, .i32⟩
  | .hbm, ⟨57, _⟩ => ⟨S_, .f32⟩
  | .hbm, ⟨58, _⟩ => ⟨S_, .i32⟩
  | .hbm, ⟨59, _⟩ => ⟨S65536x256, .f32⟩
  | .hbm, ⟨60, _⟩ => ⟨S65536x256, .i32⟩
  | .hbm, ⟨61, _⟩ => ⟨S_, .i32⟩
  | .hbm, ⟨62, _⟩ => ⟨S65536x256, .i32⟩
  | .hbm, ⟨63, _⟩ => ⟨S65536x256, .i1⟩
  | .hbm, ⟨64, _⟩ => ⟨S_, .i32⟩
  | .hbm, ⟨65, _⟩ => ⟨S65536x256, .i32⟩
  | .hbm, ⟨66, _⟩ => ⟨S65536x256, .i32⟩
  | .hbm, ⟨67, _⟩ => ⟨S65536x256, .i32⟩
  | .hbm, ⟨68, _⟩ => ⟨S65536x256x1, .i32⟩
  | .hbm, ⟨69, _⟩ => ⟨S1, .i32⟩
  | .hbm, ⟨70, _⟩ => ⟨S_, .i32⟩
  | .hbm, ⟨71, _⟩ => ⟨S65536x256x1, .i32⟩
  | .hbm, ⟨72, _⟩ => ⟨S65536x256x1, .i1⟩
  | .hbm, ⟨73, _⟩ => ⟨S1x1x1, .i32⟩
  | .hbm, ⟨74, _⟩ => ⟨S65536x256x1, .i32⟩
  | .hbm, ⟨75, _⟩ => ⟨S65536x256x1, .i1⟩
  | .hbm, ⟨76, _⟩ => ⟨S65536x256x1, .i1⟩
  | .hbm, ⟨77, _⟩ => ⟨S_, .i1⟩
  | .hbm, ⟨78, _⟩ => ⟨S65536x256, .i1⟩
  | .hbm, ⟨79, _⟩ => ⟨S65536x256, .f32⟩
  | .hbm, ⟨80, _⟩ => ⟨S_, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_call1_cst : Ref sig .tc := ⟨.hbm, 23, rfl⟩
abbrev main_call1_c : Ref sig .tc := ⟨.hbm, 24, rfl⟩
abbrev main_call1_v1_0 : Ref sig .tc := ⟨.hbm, 25, rfl⟩
abbrev main_v13 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call3_v0 : Ref sig .tc := ⟨.hbm, 56, rfl⟩
abbrev main_call3_cst : Ref sig .tc := ⟨.hbm, 57, rfl⟩
abbrev main_call3_c : Ref sig .tc := ⟨.hbm, 58, rfl⟩
abbrev main_call3_v1_0 : Ref sig .tc := ⟨.hbm, 59, rfl⟩
abbrev main_v22 : Ref sig .tc := ⟨.hbm, 60, rfl⟩
abbrev main_call4_c : Ref sig .tc := ⟨.hbm, 61, rfl⟩
abbrev main_call4_v0 : Ref sig .tc := ⟨.hbm, 62, rfl⟩
abbrev main_call4_v1 : Ref sig .tc := ⟨.hbm, 63, rfl⟩
abbrev main_call4_c_0 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_c_1 : Ref sig .tc := ⟨.hbm, 69, rfl⟩
abbrev main_call4_c_2 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_3 : Ref sig .tc := ⟨.hbm, 77, rfl⟩
abbrev main_call4_v12 : Ref sig .tc := ⟨.hbm, 78, rfl⟩
abbrev main_call4_v13 : Ref sig .tc := ⟨.hbm, 79, rfl⟩
abbrev main_call4_cst : Ref sig .tc := ⟨.hbm, 80, rfl⟩
abbrev main_call4_v14 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩

abbrev nD : Nat := 1
abbrev τ : Topo := Topo.v7x

variable {F : FTy → Type} [FloatOps F]
-- ==== Proof.Spec.lean ====
/-
  What both programs compute, row by row, on extended reals: the norm of a row, the rotated row, the
  two stages of quantisation and the row built back. The choice of a centroid is written as the
  kernel makes it, by comparisons with the midpoints; `nearest` says that this is a centroid at the
  least distance, the first of them when several are. `rot_real` and `res_real` say that the values
  quantised are real numbers whatever the row is, once the rotation's entries are.
-/
module

public import Idealize.ShloMosaic.PureOps.Ideal.Laws

@[expose] public section

noncomputable section

namespace Cert.Spec

open Idealize.ShloMosaic
open scoped BigOperators

/-- The small number added to a row's norm before dividing by it. -/
def eps : EReal := Ideal.ofBits .f32 0x322BCC77#32

/-- One half, the factor of a midpoint. -/
def half : EReal := Ideal.ofBits .f32 0x3F000000#32

/-- The midpoint of two centroids. -/
def mid (a b : EReal) : EReal := half * (a + b)

/-- The entry of `t` at the place of the four increasing centroids `c` that the midpoints choose for `v`. -/
def pick {α : Type} (c : Fin 4 → EReal) (v : EReal) (t : Fin 4 → α) : α :=
  if mid (c 1) (c 2) < v then (if mid (c 2) (c 3) < v then t 3 else t 2)
  else (if mid (c 0) (c 1) < v then t 1 else t 0)

/-- The chosen place as a word. -/
def qIdx (c : Fin 4 → EReal) (v : EReal) : BitVec 32 := pick c v fun k => BitVec.ofNat 32 k.val

/-- The chosen centroid. -/
def qVal (c : Fin 4 → EReal) (v : EReal) : EReal := pick c v c

/-- The distance of two extended reals. -/
def dist (v a : EReal) : EReal := max (v - a) (-(v - a))

/-- A row's norm. -/
def nrm (x : Fin 256 → EReal) : EReal := Ideal.sqrt (∑ k, x k * x k)

/-- An entry of the row divided by its norm. -/
def unit (x : Fin 256 → EReal) (k : Fin 256) : EReal := Ideal.div (x k) (nrm x + eps)

/-- An entry of the rotated row. -/
def rot (x : Fin 256 → EReal) (P : Fin 256 → Fin 256 → EReal) (j : Fin 256) : EReal := ∑ k, unit x k * P j k

/-- What the first stage leaves of an entry. -/
def res (c : Fin 4 → EReal) (v : EReal) : EReal := v - qVal c v

/-- The sum of the centroids the two stages choose for a rotated entry. -/
def hat (c d : Fin 4 → EReal) (v : EReal) : EReal := qVal c v + qVal d (res c v)

/-- An entry of the row built back. -/
def back (x : Fin 256 → EReal) (P : Fin 256 → Fin 256 → EReal) (c d : Fin 4 → EReal) (j : Fin 256) : EReal :=
  (∑ k, hat c d (rot x P k) * P k j) * nrm x

/-- Picking an entry is reading it at the picked place. -/
theorem pick_apply {α : Type} (c : Fin 4 → EReal) (v : EReal) (t : Fin 4 → α) : pick c v t = t (pick c v id) := by
  unfold pick; split_ifs <;> rfl

/-- One half is the real one half. -/
theorem half_eq : half = ((1 / 2 : ℝ) : EReal) := by
  unfold half
  simp [Ideal.ofBits, Ideal.ieee, -EReal.coe_mul]; norm_num

/-- The small number is a positive real. -/
theorem eps_real : ∃ r : ℝ, 0 < r ∧ eps = (r : EReal) := by
  unfold eps
  simp only [Ideal.ofBits, Ideal.ieee]
  norm_num
  rw [if_neg (by decide), if_neg (by decide)]
  exact ⟨_, mul_pos (by norm_num) (zpow_pos (by norm_num) _), rfl⟩

/-- The midpoint of two real numbers. -/
theorem mid_coe (a b : ℝ) : mid (a : EReal) (b : EReal) = (((a + b) / 2 : ℝ) : EReal) := by
  unfold mid
  rw [half_eq, ← EReal.coe_add, ← EReal.coe_mul]
  congr 1; ring

/-- The distance of two real numbers. -/
theorem dist_coe (v a : ℝ) : dist (v : EReal) (a : EReal) = ((|v - a| : ℝ) : EReal) := by
  unfold dist
  rw [← EReal.coe_sub, ← EReal.coe_neg, abs_eq_max_neg]
  exact (EReal.coe_strictMono.monotone.map_max).symm

/-- A real number is infinitely far from minus infinity. -/
theorem dist_bot (v : ℝ) : dist (v : EReal) ⊥ = ⊤ := by
  unfold dist; rw [EReal.coe_sub_bot]; exact max_eq_left le_top

/-- A real number is infinitely far from infinity. -/
theorem dist_top (v : ℝ) : dist (v : EReal) ⊤ = ⊤ := by
  unfold dist; rw [sub_eq_add_neg (v : EReal), EReal.neg_top, EReal.add_bot, EReal.neg_bot]; exact max_eq_right le_top

/-- Of two centroids in order, the greater is the nearer to a real number exactly when the number lies beyond their
midpoint. -/
theorem dist_lt_iff {a b : EReal} (h : a < b) (hab : a ≠ ⊥ ∨ b ≠ ⊤) (v : ℝ) :
    dist (v : EReal) b < dist (v : EReal) a ↔ mid a b < (v : EReal) := by
  induction a using EReal.rec with
  | top => exact absurd h not_top_lt
  | bot =>
    induction b using EReal.rec with
    | bot => exact absurd h (lt_irrefl _)
    | top => exact absurd hab (by simp)
    | coe b =>
      rw [dist_bot, dist_coe, mid, EReal.bot_add, half_eq, EReal.coe_mul_bot_of_pos (by norm_num)]
      exact ⟨fun _ => EReal.bot_lt_coe v, fun _ => EReal.coe_lt_top _⟩
  | coe a =>
    induction b using EReal.rec with
    | bot => exact absurd h not_lt_bot
    | top =>
      rw [dist_top, mid, EReal.coe_add_top, half_eq, EReal.coe_mul_top_of_pos (by norm_num)]
      exact ⟨fun h => absurd h not_top_lt, fun h => absurd h not_top_lt⟩
    | coe b =>
      rw [dist_coe, dist_coe, mid_coe, EReal.coe_lt_coe_iff, EReal.coe_lt_coe_iff]
      have hr : a < b := EReal.coe_lt_coe_iff.mp h
      rw [← sq_lt_sq]
      constructor
      · intro h; nlinarith
      · intro h; nlinarith

/-- Midpoints keep the order of the centroids. -/
theorem mid_mono {a b c : EReal} (h : a ≤ b) (h' : b ≤ c) : mid a b ≤ mid b c := by
  unfold mid
  refine mul_le_mul_of_nonneg_left (add_le_add h h') ?_
  rw [half_eq]; exact_mod_cast (by norm_num : (0 : ℝ) ≤ 1 / 2)

/-- Four centroids in strictly increasing order. -/
structure Increasing (c : Fin 4 → EReal) : Prop where
  h01 : c 0 < c 1
  h12 : c 1 < c 2
  h23 : c 2 < c 3

/-- The centroid the midpoints choose is at the least distance from a real number, and is the first at that distance. -/
theorem nearest {c : Fin 4 → EReal} (hc : Increasing c) (v : ℝ) (j : Fin 4) :
    dist v (c (pick c v id)) < dist v (c j) ∨ (dist v (c (pick c v id)) = dist v (c j) ∧ pick c v id ≤ j) := by
  have e01 := dist_lt_iff hc.h01 (.inr (ne_top_of_lt hc.h12)) v
  have e12 := dist_lt_iff hc.h12 (.inr (ne_top_of_lt hc.h23)) v
  have e23 := dist_lt_iff hc.h23 (.inl (ne_bot_of_gt hc.h12)) v
  have m1 : mid (c 0) (c 1) ≤ mid (c 1) (c 2) := mid_mono hc.h01.le hc.h12.le
  have m2 : mid (c 1) (c 2) ≤ mid (c 2) (c 3) := mid_mono hc.h12.le hc.h23.le
  have key : ∀ k : Fin 4, pick c v id = k → (∀ i < k, dist v (c k) < dist v (c i)) → (∀ i, k < i → dist v (c k) ≤ dist v (c i)) →
      dist v (c (pick c v id)) < dist v (c j) ∨ (dist v (c (pick c v id)) = dist v (c j) ∧ pick c v id ≤ j) := by
    intro k hk hlo hhi
    rw [hk]
    rcases lt_trichotomy j k with h | h | h
    · exact .inl (hlo j h)
    · exact .inr ⟨by rw [h], h.ge⟩
    · rcases (hhi j h).lt_or_eq with h' | h'
      · exact .inl h'
      · exact .inr ⟨h', h.le⟩
  by_cases b1 : mid (c 1) (c 2) < v
  · have d10 := e01.mpr (m1.trans_lt b1)
    have d21 := e12.mpr b1
    by_cases b2 : mid (c 2) (c 3) < v
    · have d32 := e23.mpr b2
      refine key 3 (by simp [pick, b1, b2]) (fun i hi => ?_) fun i hi => absurd hi (by omega)
      fin_cases i
      · exact d32.trans (d21.trans d10)
      · exact d32.trans d21
      · exact d32
      · exact absurd hi (by decide)
    · have d23 := not_lt.mp (mt e23.mp b2)
      refine key 2 (by simp [pick, b1, b2]) (fun i hi => ?_) fun i hi => ?_
      · fin_cases i
        · exact d21.trans d10
        · exact d21
        · exact absurd hi (by decide)
        · exact absurd hi (by decide)
      · obtain rfl : i = 3 := by omega
        exact d23
  · have d12 := not_lt.mp (mt e12.mp b1)
    have d23 := not_lt.mp (mt e23.mp fun h => b1 (m2.trans_lt h))
    by_cases b0 : mid (c 0) (c 1) < v
    · have d10 := e01.mpr b0
      refine key 1 (by simp [pick, b1, b0]) (fun i hi => ?_) fun i hi => ?_
      · obtain rfl : i = 0 := by omega
        exact d10
      · fin_cases i
        · exact absurd hi (by decide)
        · exact absurd hi (by decide)
        · exact d12
        · exact d12.trans d23
    · have d01 := not_lt.mp (mt e01.mp b0)
      refine key 0 (by simp [pick, b1, b0]) (fun i hi => absurd hi (by omega)) fun i hi => ?_
      fin_cases i
      · exact absurd hi (by decide)
      · exact d01
      · exact d01.trans d12
      · exact d01.trans (d12.trans d23)

/-- A word for a place of a four-entry array, that is not farther than any other and before those as far, is the word of
the place the midpoints choose. -/
theorem pick_unique {c : Fin 4 → EReal} (hc : Increasing c) (v : ℝ) (k : Fin 4)
    (hk : ∀ j : Fin 4, dist v (c k) < dist v (c j) ∨ (dist v (c k) = dist v (c j) ∧ k ≤ j)) : k = pick c v id := by
  rcases hk (pick c v id) with h | ⟨h, h'⟩
  · rcases nearest hc v k with h2 | ⟨h2, _⟩
    · exact absurd h2 h.not_gt
    · exact absurd h2.symm h.ne
  · rcases nearest hc v k with h2 | ⟨_, h2⟩
    · exact absurd h.symm h2.ne
    · exact le_antisymm h' h2

/-- The chosen centroid is real. -/
theorem qVal_real {c : Fin 4 → EReal} (hc : Increasing c) (v : ℝ) : ∃ r : ℝ, qVal c v = r := by
  have real : ∀ {x : EReal}, x ≠ ⊥ → x ≠ ⊤ → ∃ r : ℝ, x = r := fun {x} h h' => ⟨x.toReal, (EReal.coe_toReal h' h).symm⟩
  unfold qVal pick
  split_ifs with b1 b2 b0
  · refine real (ne_bot_of_gt hc.h23) fun h3 => ?_
    rw [h3, mid, half_eq, EReal.add_top_of_ne_bot (ne_bot_of_gt hc.h12), EReal.coe_mul_top_of_pos (by norm_num)] at b2
    exact absurd b2 not_top_lt
  · exact real (ne_bot_of_gt hc.h12) (ne_top_of_lt hc.h23)
  · exact real (ne_bot_of_gt hc.h01) (ne_top_of_lt hc.h12)
  · refine real (fun h0 => ?_) (ne_top_of_lt hc.h01)
    rw [h0, mid, half_eq, EReal.bot_add, EReal.coe_mul_bot_of_pos (by norm_num)] at b0
    exact b0 (EReal.bot_lt_coe v)

/-- What the first stage leaves of a real number is real. -/
theorem res_real {c : Fin 4 → EReal} (hc : Increasing c) (v : ℝ) : ∃ r : ℝ, res c v = r := by
  obtain ⟨q, hq⟩ := qVal_real hc v
  exact ⟨v - q, by rw [res, hq, ← EReal.coe_sub]⟩

/-- A square is not negative. -/
theorem sq_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

/-- A sum of reals is real. -/
theorem sum_real {ι : Type} (s : Finset ι) (f : ι → EReal) (h : ∀ i, ∃ r : ℝ, f i = r) : ∃ r : ℝ, ∑ i ∈ s, f i = r := by
  choose g hg using h
  refine ⟨∑ i ∈ s, g i, ?_⟩
  rw [Finset.sum_congr rfl fun i _ => hg i]
  exact (map_sum (⟨⟨Real.toEReal, rfl⟩, EReal.coe_add⟩ : ℝ →+ EReal) g s).symm

/-- An entry of the row divided by its norm is real, whatever the row: a row with an infinite entry has an infinite norm,
and divided by it every entry is zero. -/
theorem unit_real (x : Fin 256 → EReal) (k : Fin 256) : ∃ r : ℝ, unit x k = r := by
  obtain ⟨e, he, hE⟩ := eps_real
  unfold unit
  by_cases h : ∀ i, ∃ r : ℝ, x i = r
  · choose y hy using h
    obtain ⟨s, hs⟩ := sum_real Finset.univ (fun i => x i * x i) fun i => ⟨y i * y i, by rw [hy i, EReal.coe_mul]⟩
    have h0 : 0 ≤ s := by
      have : (0 : EReal) ≤ (s : EReal) := hs ▸ Finset.sum_nonneg fun i _ => sq_nonneg' (x i)
      exact_mod_cast this
    have hn : nrm x = (Real.sqrt s : EReal) := by
      unfold nrm; rw [hs, Ideal.sqrt_coe, if_neg (not_lt.mpr h0)]
    have hp : 0 < Real.sqrt s + e := add_pos_of_nonneg_of_pos (Real.sqrt_nonneg s) he
    rw [hn, hE, hy k, ← EReal.coe_add, Ideal.div, if_neg (by exact_mod_cast hp.ne'), ← EReal.coe_inv, ← EReal.coe_mul]
    exact ⟨_, rfl⟩
  · push Not at h
    obtain ⟨i, hi⟩ := h
    have hsq : x i * x i = ⊤ := by
      have : x i = ⊥ ∨ x i = ⊤ := by
        by_contra hc
        push Not at hc
        exact hi (x i).toReal (EReal.coe_toReal hc.2 hc.1).symm
      rcases this with h | h <;> rw [h]
      · exact EReal.bot_mul_bot
      · exact EReal.top_mul_top
    have hs : ∑ k, x k * x k = ⊤ :=
      top_le_iff.mp (hsq ▸ Finset.single_le_sum (f := fun k => x k * x k) (fun k _ => sq_nonneg' (x k)) (Finset.mem_univ i))
    have hn : nrm x + eps = ⊤ := by
      unfold nrm
      rw [hs, Ideal.sqrt_top, hE, EReal.top_add_coe]
    refine ⟨0, ?_⟩
    rw [hn, Ideal.div, if_neg EReal.top_ne_zero, EReal.inv_top, mul_zero, EReal.coe_zero]

/-- A rotated entry is real when the rotation's entries are. -/
theorem rot_real (x : Fin 256 → EReal) {P : Fin 256 → Fin 256 → EReal} (hP : ∀ j k, ∃ r : ℝ, P j k = r) (j : Fin 256) :
    ∃ r : ℝ, rot x P j = r :=
  sum_real _ _ fun k => by
    obtain ⟨u, hu⟩ := unit_real x k
    obtain ⟨p, hp⟩ := hP j k
    exact ⟨u * p, by rw [hu, hp, EReal.coe_mul]⟩

end Cert.Spec
-- ==== Proof.Pre.lean ====
/-
  What the precondition says of its arguments on extended reals: every entry of the rotation is a real number, and
  each table of centroids is strictly increasing.
-/
module

public import proofs.«01_k».proof.Defs
public import proofs.«01_k».proof.Proof.Spec
public import Idealize.ShloMosaic.PureOps.Ideal.Laws
public import Idealize.ShloMosaic.Lib.ValueIdx
public import Idealize.ShloMosaic.Lib.IdealHost
public import Idealize.ShloMosaic.Lib.Pipeline.Value
public import Idealize.ShloMosaic.Lib.StableHlo.Predicate

@[expose] public section

noncomputable section

namespace Cert.Pre_finite_and_increasing.Pre

open Cert.Pre_finite_and_increasing Idealize.ShloMosaic Idealize.ShloMosaic.ValueIdx

/-- The shapes the precondition's operations state fit. -/
instance facts : Cert.Pre_finite_and_increasing.Facts where
  bcast_S_S256x256 := by decide
  slices_S4_S3_0 := by decide
  slices_S4_S3_1 := by decide

/-- An ordered less-than that came out true is less-than. -/
theorem lt_of_cmp {a b : EReal} (h : Ideal.cmp .olt a b = 1#1) : a < b := by
  by_contra hn
  simp [Ideal.cmp, hn] at h

/-- The bits of positive infinity are the top of the extended reals. -/
theorem ofBits_inf : Ideal.ofBits .f32 0x7F800000#32 = ⊤ := by simp [Ideal.ofBits, Ideal.ieee]

/-- A number whose magnitude is below the top is real. -/
theorem real_of_abs {p : EReal} (h : max p (-p) < ⊤) : ∃ q : ℝ, p = q := by
  have h1 : p ≠ ⊤ := fun e => by simp [e] at h
  have h2 : p ≠ ⊥ := fun e => by simp [e] at h
  exact ⟨p.toReal, (EReal.coe_toReal h1 h2).symm⟩

variable [Cert.Pre_finite_and_increasing.Facts]

/-- Every entry of the rotation is real. -/
theorem real_entries {X : FVec Ideal S65536x256 .f32} {P : FVec Ideal S256x256 .f32} {C D : FVec Ideal S4 .f32}
    (h : (fn (F := Ideal) X P C D).1 = fun _ => 1#1) (j k : Fin 256) : ∃ p : ℝ, P (ix2 j k) = p := by
  have e := congrFun h (ix2 j k)
  have e' : Ideal.cmp .olt (max (P (ix2 j k)) (-P (ix2 j k)))
      (broadcastInDim S256x256 ![] Facts.bcast_S_S256x256 (constant (F := Ideal) S_ .f32 0x7F800000#32) (ix2 j k)) = 1#1 := e
  rw [broadcastInDim_scalar_apply] at e'
  have e'' := lt_of_cmp e'
  rw [show constant (F := Ideal) S_ .f32 0x7F800000#32 ix0 = Ideal.ofBits .f32 0x7F800000#32 from rfl, ofBits_inf] at e''
  exact real_of_abs e''

/-- A table whose first three entries are each below the next is strictly increasing. -/
theorem increasing_of {C : FVec Ideal S4 .f32}
    (h : cmpf .olt (extractStridedSlice S3 ![0] C Facts.slices_S4_S3_0) (extractStridedSlice S3 ![1] C Facts.slices_S4_S3_1)
      = fun _ => 1#1) : Spec.Increasing fun k => C (ix1 k) := by
  have key : ∀ (a b : Fin 4) (i : Fin 3), a.val = i.val → b.val = 1 + i.val → C (ix1 a) < C (ix1 b) := fun a b i ha hb => by
    have e : Ideal.cmp .olt (extractStridedSlice S3 ![0] C Facts.slices_S4_S3_0 (ix1 i))
        (extractStridedSlice S3 ![1] C Facts.slices_S4_S3_1 (ix1 i)) = 1#1 := congrFun h (ix1 i)
    rw [extractStridedSlice_apply ![0] C _ (ix1 i) (ix1 a) (fun d => by
        fin_cases d; show a.val = 0 + i.val; omega),
      extractStridedSlice_apply ![1] C _ (ix1 i) (ix1 b) (fun d => by
        fin_cases d; exact hb)] at e
    exact lt_of_cmp e
  exact ⟨key 0 1 0 rfl rfl, key 1 2 1 rfl rfl, key 2 3 2 rfl rfl⟩

/-- The first step's centroids are strictly increasing. -/
theorem increasing_fst {X : FVec Ideal S65536x256 .f32} {P : FVec Ideal S256x256 .f32} {C D : FVec Ideal S4 .f32}
    (h : (fn (F := Ideal) X P C D).2.1 = fun _ => 1#1) : Spec.Increasing fun k => C (ix1 k) := increasing_of h

/-- The second step's centroids are strictly increasing. -/
theorem increasing_snd {X : FVec Ideal S65536x256 .f32} {P : FVec Ideal S256x256 .f32} {C D : FVec Ideal S4 .f32}
    (h : (fn (F := Ideal) X P C D).2.2 = fun _ => 1#1) : Spec.Increasing fun k => D (ix1 k) := increasing_of h

end Cert.Pre_finite_and_increasing.Pre

end
-- ==== Proof.DotSum.lean ====
/-
  A contraction over one axis, on extended reals: the sum over the contraction's own indices, as a sum over
  the coordinates of that axis.
-/
module

public import Idealize.ShloMosaic.PureOps.Ideal.Laws
public import Idealize.ShloMosaic.Lib.ValueIdx

@[expose] public section

noncomputable section

namespace Cert.DotSum

open Idealize.ShloMosaic Idealize.ShloMosaic.ValueIdx
open scoped BigOperators

/-- A contraction's sum at a result index, its factors read at the operand indices `L k` and `R k` for the coordinates `k` of the
contracted axis. -/
theorem sum_contr {sl sr so : Shape} (d : DotDims sl sr so) (n : Nat) (hr : d.contr.rank = 1)
    (hs : d.contr.size ⟨0, by omega⟩ = n) (lhs : sl.Idx → EReal) (rhs : sr.Idx → EReal) (j : so.Idx)
    (L : Fin n → sl.Idx) (R : Fin n → sr.Idx) (hL : ∀ q a, (d.lhsIdx j q a).val = (L (contrEquiv1 d n hr hs q) a).val)
    (hR : ∀ q a, (d.rhsIdx j q a).val = (R (contrEquiv1 d n hr hs q) a).val) :
    ∑ q : d.contr.Idx, lhs (d.lhsIdx j q) * rhs (d.rhsIdx j q) = ∑ k : Fin n, lhs (L k) * rhs (R k) := by
  rw [← Equiv.sum_comp (contrEquiv1 d n hr hs)]
  refine Finset.sum_congr rfl fun q _ => ?_
  rw [show d.lhsIdx j q = L (contrEquiv1 d n hr hs q) from funext fun a => Fin.ext (hL q a),
    show d.rhsIdx j q = R (contrEquiv1 d n hr hs q) from funext fun a => Fin.ext (hR q a)]

/-- Without batch axes, the left operand's one kept axis reads the result's first coordinate. -/
theorem lhs_kept {sl sr so : Shape} (d : DotDims sl sr so) (a : Fin sl.rank) (hb : d.lhsBatch = []) (hn : d.lhsNonContracting = [a])
    (h0 : 0 < so.rank) (j : so.Idx) (q : d.contr.Idx) : (d.lhsIdx j q a).val = (j ⟨0, h0⟩).val := by
  unfold DotDims.lhsIdx
  rw [dif_neg (by rw [hb]; exact List.not_mem_nil), dif_pos (by rw [hn]; exact List.mem_singleton.mpr rfl)]
  show (j _).val = _
  exact congrArg (fun b => (j b).val) (Fin.ext (by simp [hb, hn]))

/-- Without batch axes, the right operand's one kept axis reads the result's second coordinate when the left operand keeps one axis. -/
theorem rhs_kept {sl sr so : Shape} (d : DotDims sl sr so) (a : Fin sr.rank) (hb : d.rhsBatch = []) (hn : d.rhsNonContracting = [a])
    (hb' : d.lhsBatch = []) (hn' : d.lhsNonContracting.length = 1) (h1 : 1 < so.rank) (j : so.Idx) (q : d.contr.Idx) :
    (d.rhsIdx j q a).val = (j ⟨1, h1⟩).val := by
  unfold DotDims.rhsIdx
  rw [dif_neg (by rw [hb]; exact List.not_mem_nil), dif_pos (by rw [hn]; exact List.mem_singleton.mpr rfl)]
  show (j _).val = _
  exact congrArg (fun b => (j b).val) (Fin.ext (by simp [hb', hn, hn']))

end Cert.DotSum
-- ==== Proof.Chunk.lean ====
/-
  What the kernel does with one chunk of 1024 rows, as functions of the rows, the rotation and the two lists of four
  centroids, and these functions read at an index on extended reals as the row functions of the specification.
-/
module

public import proofs.«01_k».proof.Proof.Gen.KernelIdeal.Skeleton
public import proofs.«01_k».proof.Proof.DotSum
public import proofs.«01_k».proof.Proof.Spec
public import Idealize.ShloMosaic.Lib.Pipeline.Value

@[expose] public section

set_option maxRecDepth 16384

noncomputable section

namespace Cert.KernelIdeal.Chunk

open Cert.KernelIdeal Cert.KernelIdeal.Gen
open Idealize.ShloMosaic Idealize.ShloMosaic.ValueIdx
open scoped BigOperators

section Defs

variable {F : FTy → Type} [FloatOps F]

/-- The norms of the chunk's rows, a column. -/
def norm (x : Vec F S1024x256 .f32) : FVec F S1024x1 .f32 :=
  sqrt (shapeCast S1024x1 (multiReduction .add [1] S1024 (mulf x x) 0x00000000#32 reduces_S1024x256_S1024 (.inl rfl) rfl)
    shapeCasts_S1024_S1024x1)

/-- The chunk's rows divided by their norms and rotated. -/
def rot (p : Vec F S256x256 .f32) (x : Vec F S1024x256 .f32) : FVec F S1024x256 .f32 :=
  matmul dot_S1024x256_S256x256_S1024x256_1_1_0_0_n_n none
    (divf x (broadcastTo S1024x256 (addf (norm x) (broadcast S1024x1 (Scalar.ofBits .f32 0x322BCC77#32)))
      broadcasts_S1024x1_S1024x256))
    p (constant S1024x256 .f32 0x00000000#32)

/-- Which entries lie above the midpoint of two centroids. -/
def above (v : FVec F S1024x256 .f32) (a b : F .f32) : IVec S1024x256 1 :=
  cmpf .ogt v (broadcast S1024x256 (Scalar.mulf (Scalar.ofBits .f32 0x3F000000#32) (Scalar.addf a b)))

/-- The one of four arrays that the three midpoints choose at every entry. -/
def pick {α : Type} (v : FVec F S1024x256 .f32) (a b c d : F .f32) (t0 t1 t2 t3 : α) : S1024x256.Idx → α :=
  select (above v b c) (select (above v c d) (broadcast S1024x256 t3) (broadcast S1024x256 t2))
    (select (above v a b) (broadcast S1024x256 t1) (broadcast S1024x256 t0))

/-- The places chosen. -/
def place (v : FVec F S1024x256 .f32) (a b c d : F .f32) : IVec S1024x256 32 := pick v a b c d 0#32 1#32 2#32 3#32

/-- The centroids chosen. -/
def val (v : FVec F S1024x256 .f32) (a b c d : F .f32) : FVec F S1024x256 .f32 := pick v a b c d a b c d

/-- What the chosen centroids leave. -/
def res (v : FVec F S1024x256 .f32) (a b c d : F .f32) : FVec F S1024x256 .f32 := subf v (val v a b c d)

/-- The rows built back from the centroids the two steps choose. -/
def back (p : Vec F S256x256 .f32) (x : Vec F S1024x256 .f32) (a b c d a' b' c' d' : F .f32) : FVec F S1024x256 .f32 :=
  mulf (matmul dot_S1024x256_S256x256_S1024x256_1_0_0_1_n_n none
      (addf (val (rot p x) a b c d) (val (res (rot p x) a b c d) a' b' c' d')) p (constant S1024x256 .f32 0x00000000#32))
    (broadcastTo S1024x256 (norm x) broadcasts_S1024x1_S1024x256)

/-- The identity matrix. -/
def ident : FVec F S128x128 .f32 :=
  sitofp .f32 (extui 32 (cmpi .eq (addi (iota .tc S128x128 32 [0] iota_S128x128_d0_w32) (broadcast S128x128 0#32))
    (iota .tc S128x128 32 [1] iota_S128x128_d1_w32)) natLt_1_32)

/-- A slab of 128 entries of a column, as a row. -/
def slab (w : FVec F S1024x1 .f32) (o : ℕ) (h : S1024x1.Slices ![o, 0] S128x1) : FVec F S1x128 .f32 :=
  matmul dot_S128x1_S128x128_S1x128_0_0_1_1_n_n none (extractStridedSlice S128x1 ![o, 0] w h) ident
    (constant S1x128 .f32 0x00000000#32)

/-- A column as a vector: its eight slabs one above another, flattened. -/
def flat (w : FVec F S1024x1 .f32) : FVec F S1024 .f32 :=
  shapeCast S1024 (concatenate S8x128 0 [⟨S1x128, slab w 0 slices_S1024x1_o0_0_S128x1⟩,
    ⟨S1x128, slab w 128 slices_S1024x1_o128_0_S128x1⟩, ⟨S1x128, slab w 256 slices_S1024x1_o256_0_S128x1⟩,
    ⟨S1x128, slab w 384 slices_S1024x1_o384_0_S128x1⟩, ⟨S1x128, slab w 512 slices_S1024x1_o512_0_S128x1⟩,
    ⟨S1x128, slab w 640 slices_S1024x1_o640_0_S128x1⟩, ⟨S1x128, slab w 768 slices_S1024x1_o768_0_S128x1⟩,
    ⟨S1x128, slab w 896 slices_S1024x1_o896_0_S128x1⟩]
    concatenates_S1x128_S1x128_S1x128_S1x128_S1x128_S1x128_S1x128_S1x128_S8x128_d0) shapeCasts_S8x128_S1024

end Defs

/-! ## Read at an index, on extended reals -/

/-- A row of the chunk. -/
def row (x : Vec Ideal S1024x256 .f32) (r : Fin 1024) (k : Fin 256) : EReal := x (ix2 r k)

/-- The rotation's entries by row and column. -/
def mat (p : Vec Ideal S256x256 .f32) (j k : Fin 256) : EReal := p (ix2 j k)

/-- The chunk's norms are the rows' norms. -/
theorem norm_apply (x : Vec Ideal S1024x256 .f32) (r : Fin 1024) (z : Fin 1) :
    norm (F := Ideal) x (ix2 r z) = Spec.nrm (row x r) := by
  unfold norm
  show Ideal.sqrt (shapeCast S1024x1 _ _ (ix2 r z)) = _
  rw [shapeCast_apply _ shapeCasts_S1024_S1024x1 (ix2 r z) (ix1 r) (by
    rw [Shape.rowMajor_val_two, Shape.rowMajor_val_one]
    show r.val = r.val * 1 + z.val
    omega)]
  refine (congrArg Ideal.sqrt (Ideal.multiReduction_add_single _ _ reduces_S1024x256_S1024 _ _ (ix1 r))).trans ?_
  unfold Spec.nrm
  refine congrArg Ideal.sqrt (Finset.sum_congr rfl fun k _ => ?_)
  have e : Shape.Reduces.lift (s := S1024x256) (t := S1024) (a := 1) reduces_S1024x256_S1024 (ix1 r) k = ix2 r k :=
    funext fun a => Fin.ext (by match a with | ⟨0, _⟩ => rfl | ⟨1, _⟩ => rfl)
  rw [e]; rfl

/-- A column spread over the columns. -/
theorem spread_apply (w : FVec Ideal S1024x1 .f32) (r : Fin 1024) (c : Fin 256) :
    broadcastTo S1024x256 w broadcasts_S1024x1_S1024x256 (ix2 r c) = w (ix2 r 0) :=
  broadcastTo_apply w broadcasts_S1024x1_S1024x256 (ix2 r c) (ix2 r 0) (fun a => match a with
    | ⟨0, _⟩ => by show r.val = if (1024 : Nat) = 1 then 0 else r.val; rw [if_neg (by decide)]
    | ⟨1, _⟩ => by show 0 = if (1 : Nat) = 1 then 0 else c.val; rw [if_pos rfl])

/-- A product with the transpose of a matrix on the right, at an entry. -/
theorem dotT_apply (u : FVec Ideal S1024x256 .f32) (p : FVec Ideal S256x256 .f32) (r : Fin 1024) (c : Fin 256) :
    matmul (F := Ideal) dot_S1024x256_S256x256_S1024x256_1_1_0_0_n_n none u p (constant S1024x256 .f32 0x00000000#32) (ix2 r c)
      = ∑ k : Fin 256, (u (ix2 r k) : EReal) * p (ix2 c k) := by
  simp only [matmul]
  rw [Ideal.matmul_constant_zero_apply]
  exact DotSum.sum_contr dot_S1024x256_S256x256_S1024x256_1_1_0_0_n_n 256 rfl rfl u p (ix2 r c) (fun k => ix2 r k) (fun k => ix2 c k)
    (fun q a => match a with
      | ⟨0, _⟩ => DotSum.lhs_kept dot_S1024x256_S256x256_S1024x256_1_1_0_0_n_n 0 rfl rfl (by decide) (ix2 r c) q
      | ⟨1, _⟩ => dot_S1024x256_S256x256_S1024x256_1_1_0_0_n_n.lhsIdx_val_of_single rfl (ix2 r c) q)
    (fun q a => match a with
      | ⟨0, _⟩ => DotSum.rhs_kept dot_S1024x256_S256x256_S1024x256_1_1_0_0_n_n 0 rfl rfl rfl rfl (by decide) (ix2 r c) q
      | ⟨1, _⟩ => dot_S1024x256_S256x256_S1024x256_1_1_0_0_n_n.rhsIdx_val_of_single rfl (ix2 r c) q)

/-- A product with a matrix on the right, at an entry. -/
theorem dot_apply (u : FVec Ideal S1024x256 .f32) (p : FVec Ideal S256x256 .f32) (r : Fin 1024) (c : Fin 256) :
    matmul (F := Ideal) dot_S1024x256_S256x256_S1024x256_1_0_0_1_n_n none u p (constant S1024x256 .f32 0x00000000#32) (ix2 r c)
      = ∑ k : Fin 256, (u (ix2 r k) : EReal) * p (ix2 k c) := by
  simp only [matmul]
  rw [Ideal.matmul_constant_zero_apply]
  exact DotSum.sum_contr dot_S1024x256_S256x256_S1024x256_1_0_0_1_n_n 256 rfl rfl u p (ix2 r c) (fun k => ix2 r k) (fun k => ix2 k c)
    (fun q a => match a with
      | ⟨0, _⟩ => DotSum.lhs_kept dot_S1024x256_S256x256_S1024x256_1_0_0_1_n_n 0 rfl rfl (by decide) (ix2 r c) q
      | ⟨1, _⟩ => dot_S1024x256_S256x256_S1024x256_1_0_0_1_n_n.lhsIdx_val_of_single rfl (ix2 r c) q)
    (fun q a => match a with
      | ⟨0, _⟩ => dot_S1024x256_S256x256_S1024x256_1_0_0_1_n_n.rhsIdx_val_of_single rfl (ix2 r c) q
      | ⟨1, _⟩ => DotSum.rhs_kept dot_S1024x256_S256x256_S1024x256_1_0_0_1_n_n 1 rfl rfl rfl rfl (by decide) (ix2 r c) q)

/-- A product of a transposed column with a matrix on the right, at an entry. -/
theorem dotC_apply (u : FVec Ideal S128x1 .f32) (p : FVec Ideal S128x128 .f32) (z : Fin 1) (c : Fin 128) :
    matmul (F := Ideal) dot_S128x1_S128x128_S1x128_0_0_1_1_n_n none u p (constant S1x128 .f32 0x00000000#32) (ix2 z c)
      = ∑ k : Fin 128, (u (ix2 k z) : EReal) * p (ix2 k c) := by
  simp only [matmul]
  rw [Ideal.matmul_constant_zero_apply]
  exact DotSum.sum_contr dot_S128x1_S128x128_S1x128_0_0_1_1_n_n 128 rfl rfl u p (ix2 z c) (fun k => ix2 k z) (fun k => ix2 k c)
    (fun q a => match a with
      | ⟨0, _⟩ => dot_S128x1_S128x128_S1x128_0_0_1_1_n_n.lhsIdx_val_of_single rfl (ix2 z c) q
      | ⟨1, _⟩ => DotSum.lhs_kept dot_S128x1_S128x128_S1x128_0_0_1_1_n_n 1 rfl rfl (by decide) (ix2 z c) q)
    (fun q a => match a with
      | ⟨0, _⟩ => dot_S128x1_S128x128_S1x128_0_0_1_1_n_n.rhsIdx_val_of_single rfl (ix2 z c) q
      | ⟨1, _⟩ => DotSum.rhs_kept dot_S128x1_S128x128_S1x128_0_0_1_1_n_n 1 rfl rfl rfl rfl (by decide) (ix2 z c) q)

/-- The chunk's rotated rows. -/
theorem rot_apply (p : Vec Ideal S256x256 .f32) (x : Vec Ideal S1024x256 .f32) (r : Fin 1024) (c : Fin 256) :
    rot (F := Ideal) p x (ix2 r c) = Spec.rot (row x r) (mat p) c := by
  unfold rot
  rw [dotT_apply]
  unfold Spec.rot
  refine Finset.sum_congr rfl fun k _ => ?_
  refine congrArg (· * mat p c k) ?_
  show Ideal.div (x (ix2 r k)) (broadcastTo S1024x256 _ broadcasts_S1024x1_S1024x256 (ix2 r k)) = _
  rw [spread_apply]
  show Ideal.div _ (norm (F := Ideal) x (ix2 r 0) + _) = _
  rw [norm_apply]
  rfl

/-- Choosing by the midpoints, at an entry. -/
theorem pick_apply {α : Type} (v : FVec Ideal S1024x256 .f32) (c : Fin 4 → EReal) (t : Fin 4 → α) (i : S1024x256.Idx) :
    pick (F := Ideal) v (c 0) (c 1) (c 2) (c 3) (t 0) (t 1) (t 2) (t 3) i = Spec.pick c (v i) t := by
  have h : ∀ a b : EReal, above (F := Ideal) v a b i = 1#1 ↔ Spec.mid a b < v i := by
    intro a b
    show BitVec.ofBool (decide (Spec.mid a b < v i)) = 1#1 ↔ _
    by_cases hc : Spec.mid a b < v i <;> simp [hc]
  unfold pick Spec.pick
  show (if above (F := Ideal) v (c 1) (c 2) i = 1#1 then (if above (F := Ideal) v (c 2) (c 3) i = 1#1 then t 3 else t 2)
    else (if above (F := Ideal) v (c 0) (c 1) i = 1#1 then t 1 else t 0)) = _
  simp only [h]

/-- The places chosen, at an entry. -/
theorem place_apply (v : FVec Ideal S1024x256 .f32) (c : Fin 4 → EReal) (i : S1024x256.Idx) :
    place (F := Ideal) v (c 0) (c 1) (c 2) (c 3) i = Spec.qIdx c (v i) :=
  pick_apply v c (fun k => BitVec.ofNat 32 k.val) i

/-- The centroids chosen, at an entry. -/
theorem val_apply (v : FVec Ideal S1024x256 .f32) (c : Fin 4 → EReal) (i : S1024x256.Idx) :
    val (F := Ideal) v (c 0) (c 1) (c 2) (c 3) i = Spec.qVal c (v i) :=
  pick_apply v c c i

/-- What is left, at an entry. -/
theorem res_apply (v : FVec Ideal S1024x256 .f32) (c : Fin 4 → EReal) (i : S1024x256.Idx) :
    res (F := Ideal) v (c 0) (c 1) (c 2) (c 3) i = Spec.res c (v i) := by
  show (v i : EReal) - val (F := Ideal) v (c 0) (c 1) (c 2) (c 3) i = _
  rw [val_apply]; rfl

/-- The rows built back, at an entry. -/
theorem back_apply (p : Vec Ideal S256x256 .f32) (x : Vec Ideal S1024x256 .f32) (c d : Fin 4 → EReal) (r : Fin 1024) (j : Fin 256) :
    back (F := Ideal) p x (c 0) (c 1) (c 2) (c 3) (d 0) (d 1) (d 2) (d 3) (ix2 r j) = Spec.back (row x r) (mat p) c d j := by
  unfold back
  show (matmul (F := Ideal) _ none _ p _ (ix2 r j) : EReal) * broadcastTo S1024x256 (norm (F := Ideal) x) _ (ix2 r j) = _
  rw [dot_apply, spread_apply, norm_apply]
  unfold Spec.back
  refine congrArg (· * Spec.nrm (row x r)) (Finset.sum_congr rfl fun k _ => ?_)
  refine congrArg (· * mat p k j) ?_
  show (val (F := Ideal) _ _ _ _ _ (ix2 r k) : EReal) + val (F := Ideal) _ _ _ _ _ (ix2 r k) = _
  rw [val_apply, val_apply, res_apply, rot_apply]
  rfl

/-- The identity matrix at an entry. -/
theorem ident_apply (k l : Fin 128) : ident (F := Ideal) (ix2 k l) = (if k = l then 1 else 0 : EReal) := by
  show ((((IntOp.cmpi .eq (IntOp.addi (BitVec.ofNat 32 (0 * 128 + k.val)) 0#32) (BitVec.ofNat 32 (0 * 128 + l.val))).setWidth 32).toInt : ℝ) : EReal) = _
  have h : ∀ k l : Fin 128, ((IntOp.cmpi .eq (IntOp.addi (BitVec.ofNat 32 (0 * 128 + k.val)) 0#32)
      (BitVec.ofNat 32 (0 * 128 + l.val))).setWidth 32).toInt = if k = l then 1 else 0 := by decide +kernel
  rw [h]
  split_ifs <;> simp

/-- A slab at an entry: the column's entry there. -/
theorem slab_apply (w : FVec Ideal S1024x1 .f32) (o : ℕ) (h : S1024x1.Slices ![o, 0] S128x1) (z : Fin 1) (l : Fin 128) (k : Fin 1024)
    (hk : k.val = o + l.val) : slab (F := Ideal) w o h (ix2 z l) = w (ix2 k 0) := by
  unfold slab
  rw [dotC_apply, Finset.sum_eq_single l]
  · rw [ident_apply, if_pos rfl, mul_one]
    exact extractStridedSlice_apply ![o, 0] w h (ix2 l z) (ix2 k 0) (fun a => match a with
      | ⟨0, _⟩ => hk
      | ⟨1, _⟩ => by show 0 = 0 + z.val; omega)
  · intro b _ hb
    rw [ident_apply, if_neg hb, mul_zero]
  · intro hl; exact absurd (Finset.mem_univ l) hl

/-- The column as a vector, at an entry. -/
theorem flat_apply (w : FVec Ideal S1024x1 .f32) (r : Fin 1024) : flat (F := Ideal) w (ix1 r) = w (ix2 r 0) := by
  unfold flat
  rw [shapeCast_apply _ shapeCasts_S8x128_S1024 (ix1 r) (ix2 (⟨r.val / 128, by omega⟩ : Fin 8) (⟨r.val % 128, by omega⟩ : Fin 128)) (by
    rw [Shape.rowMajor_val_two, Shape.rowMajor_val_one]
    show r.val / 128 * 128 + r.val % 128 = r.val
    omega)]
  let f : Fin 8 → FVec Ideal S1x128 .f32 := ![slab w 0 slices_S1024x1_o0_0_S128x1,
    slab w 128 slices_S1024x1_o128_0_S128x1, slab w 256 slices_S1024x1_o256_0_S128x1,
    slab w 384 slices_S1024x1_o384_0_S128x1, slab w 512 slices_S1024x1_o512_0_S128x1,
    slab w 640 slices_S1024x1_o640_0_S128x1, slab w 768 slices_S1024x1_o768_0_S128x1,
    slab w 896 slices_S1024x1_o896_0_S128x1]
  refine (concatenate_ofFn_unit_apply (t := S8x128) 0 f
    concatenates_S1x128_S1x128_S1x128_S1x128_S1x128_S1x128_S1x128_S1x128_S8x128_d0 rfl rfl
    (ix2 (⟨r.val / 128, by omega⟩ : Fin 8) (⟨r.val % 128, by omega⟩ : Fin 128)) ⟨r.val / 128, by omega⟩ rfl
    (ix2 0 (⟨r.val % 128, by omega⟩ : Fin 128)) (fun b hb => match b, hb with
      | ⟨0, _⟩, hb => absurd rfl hb
      | ⟨1, _⟩, _ => rfl)).trans ?_
  have hf : ∀ (n : Fin 8) (l : Fin 128) (k : Fin 1024), k.val = 128 * n.val + l.val → f n (ix2 0 l) = w (ix2 k 0) := by
    intro n l k hk
    fin_cases n <;> exact slab_apply w _ _ 0 l k hk
  exact hf _ _ r (by show r.val = 128 * (r.val / 128) + r.val % 128; omega)

end Cert.KernelIdeal.Chunk
-- ==== Proof.Block.lean ====
/-
  What one block of 4096 rows leaves in the four outputs: each of its four chunks of 1024 rows is the chunk functions
  of the loaded rows, so that every entry is the specification's row function of its own row.
-/
module

public import proofs.«01_k».proof.Proof.Gen.KernelIdeal.Value
public import proofs.«01_k».proof.Proof.Chunk
public import Idealize.ShloMosaic.Lib.Writes

@[expose] public section

set_option maxRecDepth 16384

noncomputable section

namespace Cert.KernelIdeal.Block

open Cert.KernelIdeal Cert.KernelIdeal.Gen
open Idealize.ShloMosaic Idealize.ShloMosaic.ValueIdx
open scoped BigOperators

/-- A row of the block. -/
def row (x : Vec Ideal S4096x256 .f32) (r : Fin 4096) (k : Fin 256) : EReal := x (ix2 r k)

/-- The centroids by place. -/
def tab (x : Vec Ideal S4 .f32) (k : Fin 4) : EReal := x (ix1 k)

/-- The block of rows built back. -/
def backBlock (x0 : Vec Ideal S4096x256 .f32) (x1 : Vec Ideal S256x256 .f32) (x2 x3 : Vec Ideal S4 .f32) (y : S4096x256.Idx) : EReal :=
  Spec.back (row x0 (y 0)) (Chunk.mat x1) (tab x2) (tab x3) (y 1)

/-- The block of first places. -/
def placeBlock (x0 : Vec Ideal S4096x256 .f32) (x1 : Vec Ideal S256x256 .f32) (x2 : Vec Ideal S4 .f32) (y : S4096x256.Idx) : BitVec 32 :=
  Spec.qIdx (tab x2) (Spec.rot (row x0 (y 0)) (Chunk.mat x1) (y 1))

/-- The block of second places. -/
def nextBlock (x0 : Vec Ideal S4096x256 .f32) (x1 : Vec Ideal S256x256 .f32) (x2 x3 : Vec Ideal S4 .f32) (y : S4096x256.Idx) : BitVec 32 :=
  Spec.qIdx (tab x3) (Spec.res (tab x2) (Spec.rot (row x0 (y 0)) (Chunk.mat x1) (y 1)))

/-- The block of norms. -/
def normBlock (x0 : Vec Ideal S4096x256 .f32) (y : S4096.Idx) : EReal := Spec.nrm (row x0 (y 0))

/-! ## The loads -/

section Generic

variable {F : FTy → Type} [FloatOps F]
variable (arg1 : Memref sig .tc .vmem S4096x256 .f32) (harg1 : arg1.IsWhole) (arg2 : Memref sig .tc .vmem S256x256 .f32) (harg2 : arg2.IsWhole)
  (arg3 : Memref sig .tc .smem S4 .f32) (harg3 : arg3.IsWhole)
  (x0 : Vec F S4096x256 .f32) (x1 : Vec F S256x256 .f32) (x2 : Vec F S4 .f32)

/-- The loaded rotation. -/
def loadP : Vec F S256x256 .f32 :=
  View.readAt (Elt F) arg2.view (Rect.unit (s := S256x256) ![0, 0] S256x256.size inb_S256x256_S256x256_0_0).toLoadRect (harg2.unread x1)

/-- The loaded rows of a chunk. -/
def loadX (o : ℕ) (h : ∀ a, (![o, 0] : Fin 2 → ℕ) a + S1024x256.size a ≤ S4096x256.size a) : Vec F S1024x256 .f32 :=
  View.readAt (Elt F) arg1.view (Rect.unit (s := S4096x256) ![o, 0] S1024x256.size h).toLoadRect (harg1.unread x0)

/-- A loaded centroid. -/
def loadC (o : ℕ) (h : ∀ a, (![o] : Fin 1 → ℕ) a + S1.size a ≤ S4.size a) : F .f32 :=
  View.readAt (Elt F) arg3.view (Rect.unit (s := S4) ![o] S1.size h).toLoadRect (harg3.unread x2)
    (Shape.Idx.first (s := S1) (by rw [numel1_S1]; exact Nat.one_pos))

/-- A loaded chunk's rotated rows. -/
abbrev rotL (o : ℕ) (h : ∀ a, (![o, 0] : Fin 2 → ℕ) a + S1024x256.size a ≤ S4096x256.size a) : FVec F S1024x256 .f32 :=
  Chunk.rot (loadP arg2 harg2 x1) (loadX arg1 harg1 x0 o h)

end Generic

/-- A load of a rectangle from a whole memory, at an index. -/
theorem load_apply {sp : Space} {s : Shape} {e : EltTy} (a : Memref sig .tc sp s e) (ha : a.IsWhole) (x : s.Idx → Elt Ideal e)
    (off size : Fin s.rank → ℕ) (inb : ∀ b, off b + size b ≤ s.size b) (j : (Rect.unit off size inb).shape.Idx) (k : s.Idx)
    (hk : ∀ b, (k b).val = off b + (j b).val) :
    View.readAt (Elt Ideal) a.view (Rect.unit off size inb).toLoadRect (ha.unread x) j = x k := by
  rw [View.readAt_eq_ld, ha.read_unread]
  refine congrArg x (funext fun b => Fin.ext ?_)
  rw [hk b]
  show off b + 1 * (j b).val = _
  omega

section Loads

variable (arg1 : Memref sig .tc .vmem S4096x256 .f32) (harg1 : arg1.IsWhole) (arg2 : Memref sig .tc .vmem S256x256 .f32) (harg2 : arg2.IsWhole)
  (arg3 : Memref sig .tc .smem S4 .f32) (harg3 : arg3.IsWhole) (arg4 : Memref sig .tc .smem S4 .f32) (harg4 : arg4.IsWhole)
  (x0 : Vec Ideal S4096x256 .f32) (x1 : Vec Ideal S256x256 .f32) (x2 : Vec Ideal S4 .f32) (x3 : Vec Ideal S4 .f32)

/-- The loaded rotation is the block of it. -/
theorem loadP_eq : loadP (F := Ideal) arg2 harg2 x1 = x1 := by
  funext j
  exact load_apply arg2 harg2 x1 _ _ _ j j (fun b => match b with
    | ⟨0, _⟩ => by show (j 0).val = 0 + (j 0).val; omega
    | ⟨1, _⟩ => by show (j 1).val = 0 + (j 1).val; omega)

/-- A row of a loaded chunk is the row of the block at its place. -/
theorem loadX_row (o : ℕ) (h : ∀ a, (![o, 0] : Fin 2 → ℕ) a + S1024x256.size a ≤ S4096x256.size a) (r : Fin 1024) (R : Fin 4096)
    (hR : R.val = o + r.val) : Chunk.row (loadX (F := Ideal) arg1 harg1 x0 o h) r = row x0 R := by
  funext k
  exact load_apply arg1 harg1 x0 _ _ _ (ix2 r k) (ix2 R k) (fun b => match b with
    | ⟨0, _⟩ => hR
    | ⟨1, _⟩ => by show k.val = 0 + k.val; omega)

/-- A loaded centroid is the one at its place. -/
theorem loadC_eq (o : Fin 4) (h : ∀ a, (![o.val] : Fin 1 → ℕ) a + S1.size a ≤ S4.size a) : loadC (F := Ideal) arg3 harg3 x2 o.val h = tab x2 o :=
  load_apply arg3 harg3 x2 _ _ _ _ (ix1 o) (fun b => match b with
    | ⟨0, _⟩ => by show o.val = o.val + 0; omega)

/-! ## The chunks of a block -/

variable (o : ℕ) (h : ∀ a, (![o, 0] : Fin 2 → ℕ) a + S1024x256.size a ≤ S4096x256.size a)

/-- A chunk's rotated rows. -/
theorem rotL_apply (x : (Rect.unit (s := S4096x256) ![o, 0] ![1024, 256] h).shape.Idx) :
    rotL (F := Ideal) arg1 harg1 arg2 harg2 x0 x1 o h x = Spec.rot (row x0 ((Rect.unit (s := S4096x256) ![o, 0] ![1024, 256] h).emb x 0)) (Chunk.mat x1)
      ((Rect.unit (s := S4096x256) ![o, 0] ![1024, 256] h).emb x 1) := by
  obtain ⟨r, j, rfl⟩ : ∃ (r : Fin 1024) (j : Fin 256), x = ix2 r j := ⟨x 0, x 1, eq_ix2 x⟩
  unfold rotL
  rw [Chunk.rot_apply, loadP_eq, loadX_row arg1 harg1 x0 o h r ((Rect.unit (s := S4096x256) ![o, 0] ![1024, 256] h).emb (ix2 r j) 0)
    (by show o + 1 * r.val = _; omega)]
  refine congrArg _ (Fin.ext ?_)
  show j.val = 0 + 1 * j.val
  omega

/-- A chunk's first places. -/
theorem placeL_apply (x : (Rect.unit (s := S4096x256) ![o, 0] ![1024, 256] h).shape.Idx) :
    Chunk.place (F := Ideal) (rotL (F := Ideal) arg1 harg1 arg2 harg2 x0 x1 o h) (loadC (F := Ideal) arg3 harg3 x2 0 inb_S4_S1_0) (loadC (F := Ideal) arg3 harg3 x2 1 inb_S4_S1_1) (loadC (F := Ideal) arg3 harg3 x2 2 inb_S4_S1_2) (loadC (F := Ideal) arg3 harg3 x2 3 inb_S4_S1_3) x
      = placeBlock x0 x1 x2 ((Rect.unit (s := S4096x256) ![o, 0] ![1024, 256] h).emb x) := by
  have e := fun k : Fin 4 => loadC_eq arg3 harg3 x2 k
  rw [show loadC (F := Ideal) arg3 harg3 x2 0 inb_S4_S1_0 = tab x2 0 from e 0 _, show loadC (F := Ideal) arg3 harg3 x2 1 inb_S4_S1_1 = tab x2 1 from e 1 _,
    show loadC (F := Ideal) arg3 harg3 x2 2 inb_S4_S1_2 = tab x2 2 from e 2 _, show loadC (F := Ideal) arg3 harg3 x2 3 inb_S4_S1_3 = tab x2 3 from e 3 _]
  refine (Chunk.place_apply _ (tab x2) _).trans ?_
  rw [rotL_apply]; rfl

/-- A chunk's second places. -/
theorem nextL_apply (x : (Rect.unit (s := S4096x256) ![o, 0] ![1024, 256] h).shape.Idx) :
    Chunk.place (F := Ideal) (Chunk.res (F := Ideal) (rotL (F := Ideal) arg1 harg1 arg2 harg2 x0 x1 o h) (loadC (F := Ideal) arg3 harg3 x2 0 inb_S4_S1_0) (loadC (F := Ideal) arg3 harg3 x2 1 inb_S4_S1_1) (loadC (F := Ideal) arg3 harg3 x2 2 inb_S4_S1_2) (loadC (F := Ideal) arg3 harg3 x2 3 inb_S4_S1_3)) (loadC (F := Ideal) arg4 harg4 x3 0 inb_S4_S1_0) (loadC (F := Ideal) arg4 harg4 x3 1 inb_S4_S1_1) (loadC (F := Ideal) arg4 harg4 x3 2 inb_S4_S1_2) (loadC (F := Ideal) arg4 harg4 x3 3 inb_S4_S1_3) x
      = nextBlock x0 x1 x2 x3 ((Rect.unit (s := S4096x256) ![o, 0] ![1024, 256] h).emb x) := by
  have e := fun k : Fin 4 => loadC_eq arg3 harg3 x2 k
  have e' := fun k : Fin 4 => loadC_eq arg4 harg4 x3 k
  rw [show loadC (F := Ideal) arg3 harg3 x2 0 inb_S4_S1_0 = tab x2 0 from e 0 _, show loadC (F := Ideal) arg3 harg3 x2 1 inb_S4_S1_1 = tab x2 1 from e 1 _,
    show loadC (F := Ideal) arg3 harg3 x2 2 inb_S4_S1_2 = tab x2 2 from e 2 _, show loadC (F := Ideal) arg3 harg3 x2 3 inb_S4_S1_3 = tab x2 3 from e 3 _,
    show loadC (F := Ideal) arg4 harg4 x3 0 inb_S4_S1_0 = tab x3 0 from e' 0 _, show loadC (F := Ideal) arg4 harg4 x3 1 inb_S4_S1_1 = tab x3 1 from e' 1 _,
    show loadC (F := Ideal) arg4 harg4 x3 2 inb_S4_S1_2 = tab x3 2 from e' 2 _, show loadC (F := Ideal) arg4 harg4 x3 3 inb_S4_S1_3 = tab x3 3 from e' 3 _]
  refine (Chunk.place_apply _ (tab x3) _).trans ?_
  rw [Chunk.res_apply, rotL_apply]; rfl

/-- A chunk's rows built back. -/
theorem backL_apply (x : (Rect.unit (s := S4096x256) ![o, 0] ![1024, 256] h).shape.Idx) :
    Chunk.back (F := Ideal) (loadP (F := Ideal) arg2 harg2 x1) (loadX (F := Ideal) arg1 harg1 x0 o h) (loadC (F := Ideal) arg3 harg3 x2 0 inb_S4_S1_0) (loadC (F := Ideal) arg3 harg3 x2 1 inb_S4_S1_1) (loadC (F := Ideal) arg3 harg3 x2 2 inb_S4_S1_2) (loadC (F := Ideal) arg3 harg3 x2 3 inb_S4_S1_3) (loadC (F := Ideal) arg4 harg4 x3 0 inb_S4_S1_0) (loadC (F := Ideal) arg4 harg4 x3 1 inb_S4_S1_1) (loadC (F := Ideal) arg4 harg4 x3 2 inb_S4_S1_2) (loadC (F := Ideal) arg4 harg4 x3 3 inb_S4_S1_3) x
      = backBlock x0 x1 x2 x3 ((Rect.unit (s := S4096x256) ![o, 0] ![1024, 256] h).emb x) := by
  have e := fun k : Fin 4 => loadC_eq arg3 harg3 x2 k
  have e' := fun k : Fin 4 => loadC_eq arg4 harg4 x3 k
  rw [show loadC (F := Ideal) arg3 harg3 x2 0 inb_S4_S1_0 = tab x2 0 from e 0 _, show loadC (F := Ideal) arg3 harg3 x2 1 inb_S4_S1_1 = tab x2 1 from e 1 _,
    show loadC (F := Ideal) arg3 harg3 x2 2 inb_S4_S1_2 = tab x2 2 from e 2 _, show loadC (F := Ideal) arg3 harg3 x2 3 inb_S4_S1_3 = tab x2 3 from e 3 _,
    show loadC (F := Ideal) arg4 harg4 x3 0 inb_S4_S1_0 = tab x3 0 from e' 0 _, show loadC (F := Ideal) arg4 harg4 x3 1 inb_S4_S1_1 = tab x3 1 from e' 1 _,
    show loadC (F := Ideal) arg4 harg4 x3 2 inb_S4_S1_2 = tab x3 2 from e' 2 _, show loadC (F := Ideal) arg4 harg4 x3 3 inb_S4_S1_3 = tab x3 3 from e' 3 _]
  obtain ⟨r, j, rfl⟩ : ∃ (r : Fin 1024) (j : Fin 256), x = ix2 r j := ⟨x 0, x 1, eq_ix2 x⟩
  refine (Chunk.back_apply _ _ (tab x2) (tab x3) r j).trans ?_
  rw [loadP_eq, loadX_row arg1 harg1 x0 o h r ((Rect.unit (s := S4096x256) ![o, 0] ![1024, 256] h).emb (ix2 r j) 0)
    (by show o + 1 * r.val = _; omega)]
  refine congrArg _ (Fin.ext ?_)
  show j.val = 0 + 1 * j.val
  omega

/-- A chunk's norms. -/
theorem normL_apply (h' : ∀ a, (![o] : Fin 1 → ℕ) a + (![1024] : Fin 1 → ℕ) a ≤ S4096.size a)
    (x : (Rect.unit (s := S4096) ![o] ![1024] h').shape.Idx) :
    Chunk.flat (F := Ideal) (Chunk.norm (F := Ideal) (loadX (F := Ideal) arg1 harg1 x0 o h)) x
      = normBlock x0 ((Rect.unit (s := S4096) ![o] ![1024] h').emb x) := by
  obtain ⟨r, rfl⟩ : ∃ (r : Fin 1024), x = ix1 r := ⟨x 0, eq_ix1 x⟩
  refine (Chunk.flat_apply _ r).trans ?_
  rw [Chunk.norm_apply, loadX_row arg1 harg1 x0 o h r ((Rect.unit (s := S4096) ![o] ![1024] h').emb (ix1 r) 0)
    (by show o + 1 * r.val = _; omega)]
  rfl

end Loads

/-! ## The block's outputs -/

/-- The pieces of a tall output, the last written first: a function's value for each of the four chunks. -/
def tall {Val : EltTy → Type} {e : EltTy}
    (f : ∀ o, (∀ a, (![o, 0] : Fin 2 → ℕ) a + S1024x256.size a ≤ S4096x256.size a) → S1024x256.Idx → Val e) : List (View.Piece Val S4096x256 e) :=
  [⟨Rect.unit ![3072, 0] ![1024, 256] inb_S4096x256_S1024x256_3072_0, f 3072 inb_S4096x256_S1024x256_3072_0⟩,
    ⟨Rect.unit ![2048, 0] ![1024, 256] inb_S4096x256_S1024x256_2048_0, f 2048 inb_S4096x256_S1024x256_2048_0⟩,
    ⟨Rect.unit ![1024, 0] ![1024, 256] inb_S4096x256_S1024x256_1024_0, f 1024 inb_S4096x256_S1024x256_1024_0⟩,
    ⟨Rect.unit ![0, 0] ![1024, 256] inb_S4096x256_S1024x256_0_0, f 0 inb_S4096x256_S1024x256_0_0⟩]

/-- Pieces whose every chunk is a function of its place in the block are that function of their places. -/
theorem tall_apply {Val : EltTy → Type} {e : EltTy}
    {f : ∀ o, (∀ a, (![o, 0] : Fin 2 → ℕ) a + S1024x256.size a ≤ S4096x256.size a) → S1024x256.Idx → Val e} {G : S4096x256.Idx → Val e}
    (hf : ∀ o h (x : (Rect.unit (s := S4096x256) ![o, 0] ![1024, 256] h).shape.Idx),
      f o h x = G ((Rect.unit (s := S4096x256) ![o, 0] ![1024, 256] h).emb x)) :
    ∀ p ∈ tall f, ∀ x, p.2 x = G (p.1.emb x) :=
  List.forall_mem_cons.2 ⟨hf _ _, List.forall_mem_cons.2 ⟨hf _ _, List.forall_mem_cons.2 ⟨hf _ _, List.forall_mem_cons.2 ⟨hf _ _,
    fun _ hp => absurd hp List.not_mem_nil⟩⟩⟩⟩

section Outs

variable (c : Dev nD) (i : grid0.Coords) (arg1 : Memref sig .tc .vmem S4096x256 .f32) (harg1 : arg1.IsWhole) (arg2 : Memref sig .tc .vmem S256x256 .f32) (harg2 : arg2.IsWhole)
    (arg3 : Memref sig .tc .smem S4 .f32) (harg3 : arg3.IsWhole) (arg4 : Memref sig .tc .smem S4 .f32) (harg4 : arg4.IsWhole)
    (arg5 : Memref sig .tc .vmem S4096x256 .f32) (harg5 : arg5.IsWhole) (arg6 : Memref sig .tc .vmem S4096x256 .i32) (harg6 : arg6.IsWhole)
    (arg7 : Memref sig .tc .vmem S4096x256 .i32) (harg7 : arg7.IsWhole) (arg8 : Memref sig .tc .vmem S4096 .f32) (harg8 : arg8.IsWhole)

/-- The four pieces of the rows built back, by the chunk functions. -/
theorem pieces4 {F : FTy → Type} [FloatOps F] (x0 : Vec F S4096x256 .f32) (x1 : Vec F S256x256 .f32) (x2 : Vec F S4 .f32) (x3 : Vec F S4 .f32) :
    (kernelRun0_A c i arg1 harg1 arg2 harg2 arg3 harg3 arg4 harg4 arg5 harg5 arg6 harg6 arg7 harg7 arg8 harg8 x0 x1 x2 x3).1 = tall (fun o h =>
      Chunk.back (loadP arg2 harg2 x1) (loadX arg1 harg1 x0 o h) (loadC arg3 harg3 x2 0 inb_S4_S1_0) (loadC arg3 harg3 x2 1 inb_S4_S1_1) (loadC arg3 harg3 x2 2 inb_S4_S1_2) (loadC arg3 harg3 x2 3 inb_S4_S1_3) (loadC arg4 harg4 x3 0 inb_S4_S1_0) (loadC arg4 harg4 x3 1 inb_S4_S1_1) (loadC arg4 harg4 x3 2 inb_S4_S1_2) (loadC arg4 harg4 x3 3 inb_S4_S1_3)) := rfl

/-- What the block leaves as its rows built back. -/
theorem out4 (x0 : Vec Ideal S4096x256 .f32) (x1 : Vec Ideal S256x256 .f32) (x2 : Vec Ideal S4 .f32) (x3 : Vec Ideal S4 .f32) :
    out0_A_4 c i arg1 harg1 arg2 harg2 arg3 harg3 arg4 harg4 arg5 harg5 arg6 harg6 arg7 harg7 arg8 harg8 x0 x1 x2 x3 = backBlock x0 x1 x2 x3 := by
  funext y
  unfold out0_A_4
  refine View.read_writes_apply_of_pieces _ _ (backBlock x0 x1 x2 x3) _ ?_ y (cover0_A_4 c i arg1 harg1 arg2 harg2 arg3 harg3 arg4 harg4 arg5 harg5 arg6 harg6 arg7 harg7 arg8 harg8 x0 x1 x2 x3 y)
  rw [pieces4]
  exact tall_apply (fun o h x => backL_apply arg1 harg1 arg2 harg2 arg3 harg3 arg4 harg4 x0 x1 x2 x3 o h x)

/-- The four pieces of the first places, by the chunk functions. -/
theorem pieces5 {F : FTy → Type} [FloatOps F] (x0 : Vec F S4096x256 .f32) (x1 : Vec F S256x256 .f32) (x2 : Vec F S4 .f32) (x3 : Vec F S4 .f32) :
    (kernelRun0_A c i arg1 harg1 arg2 harg2 arg3 harg3 arg4 harg4 arg5 harg5 arg6 harg6 arg7 harg7 arg8 harg8 x0 x1 x2 x3).2.1 = tall (fun o h =>
      Chunk.place (rotL arg1 harg1 arg2 harg2 x0 x1 o h) (loadC arg3 harg3 x2 0 inb_S4_S1_0) (loadC arg3 harg3 x2 1 inb_S4_S1_1) (loadC arg3 harg3 x2 2 inb_S4_S1_2) (loadC arg3 harg3 x2 3 inb_S4_S1_3)) := rfl

/-- What the block leaves as its first places. -/
theorem out5 (x0 : Vec Ideal S4096x256 .f32) (x1 : Vec Ideal S256x256 .f32) (x2 : Vec Ideal S4 .f32) (x3 : Vec Ideal S4 .f32) :
    out0_A_5 c i arg1 harg1 arg2 harg2 arg3 harg3 arg4 harg4 arg5 harg5 arg6 harg6 arg7 harg7 arg8 harg8 x0 x1 x2 x3 = placeBlock x0 x1 x2 := by
  funext y
  unfold out0_A_5
  refine View.read_writes_apply_of_pieces _ _ (placeBlock x0 x1 x2) _ ?_ y (cover0_A_5 c i arg1 harg1 arg2 harg2 arg3 harg3 arg4 harg4 arg5 harg5 arg6 harg6 arg7 harg7 arg8 harg8 x0 x1 x2 x3 y)
  rw [pieces5]
  exact tall_apply (fun o h x => placeL_apply arg1 harg1 arg2 harg2 arg3 harg3 x0 x1 x2 o h x)

/-- The four pieces of the second places, by the chunk functions. -/
theorem pieces6 {F : FTy → Type} [FloatOps F] (x0 : Vec F S4096x256 .f32) (x1 : Vec F S256x256 .f32) (x2 : Vec F S4 .f32) (x3 : Vec F S4 .f32) :
    (kernelRun0_A c i arg1 harg1 arg2 harg2 arg3 harg3 arg4 harg4 arg5 harg5 arg6 harg6 arg7 harg7 arg8 harg8 x0 x1 x2 x3).2.2.1 = tall (fun o h =>
      Chunk.place (Chunk.res (rotL arg1 harg1 arg2 harg2 x0 x1 o h) (loadC arg3 harg3 x2 0 inb_S4_S1_0) (loadC arg3 harg3 x2 1 inb_S4_S1_1) (loadC arg3 harg3 x2 2 inb_S4_S1_2) (loadC arg3 harg3 x2 3 inb_S4_S1_3)) (loadC arg4 harg4 x3 0 inb_S4_S1_0) (loadC arg4 harg4 x3 1 inb_S4_S1_1) (loadC arg4 harg4 x3 2 inb_S4_S1_2) (loadC arg4 harg4 x3 3 inb_S4_S1_3)) := rfl

/-- What the block leaves as its second places. -/
theorem out6 (x0 : Vec Ideal S4096x256 .f32) (x1 : Vec Ideal S256x256 .f32) (x2 : Vec Ideal S4 .f32) (x3 : Vec Ideal S4 .f32) :
    out0_A_6 c i arg1 harg1 arg2 harg2 arg3 harg3 arg4 harg4 arg5 harg5 arg6 harg6 arg7 harg7 arg8 harg8 x0 x1 x2 x3 = nextBlock x0 x1 x2 x3 := by
  funext y
  unfold out0_A_6
  refine View.read_writes_apply_of_pieces _ _ (nextBlock x0 x1 x2 x3) _ ?_ y (cover0_A_6 c i arg1 harg1 arg2 harg2 arg3 harg3 arg4 harg4 arg5 harg5 arg6 harg6 arg7 harg7 arg8 harg8 x0 x1 x2 x3 y)
  rw [pieces6]
  exact tall_apply (fun o h x => nextL_apply arg1 harg1 arg2 harg2 arg3 harg3 arg4 harg4 x0 x1 x2 x3 o h x)

/-- The four pieces of the norms, by the chunk functions. -/
theorem pieces7 {F : FTy → Type} [FloatOps F] (x0 : Vec F S4096x256 .f32) (x1 : Vec F S256x256 .f32) (x2 : Vec F S4 .f32) (x3 : Vec F S4 .f32) :
    (kernelRun0_A c i arg1 harg1 arg2 harg2 arg3 harg3 arg4 harg4 arg5 harg5 arg6 harg6 arg7 harg7 arg8 harg8 x0 x1 x2 x3).2.2.2.1 = [
      ⟨Rect.unit ![3072] ![1024] inb_S4096_S1024_3072, Chunk.flat (Chunk.norm (loadX arg1 harg1 x0 3072 inb_S4096x256_S1024x256_3072_0))⟩,
      ⟨Rect.unit ![2048] ![1024] inb_S4096_S1024_2048, Chunk.flat (Chunk.norm (loadX arg1 harg1 x0 2048 inb_S4096x256_S1024x256_2048_0))⟩,
      ⟨Rect.unit ![1024] ![1024] inb_S4096_S1024_1024, Chunk.flat (Chunk.norm (loadX arg1 harg1 x0 1024 inb_S4096x256_S1024x256_1024_0))⟩,
      ⟨Rect.unit ![0] ![1024] inb_S4096_S1024_0, Chunk.flat (Chunk.norm (loadX arg1 harg1 x0 0 inb_S4096x256_S1024x256_0_0))⟩] := rfl

/-- What the block leaves as its norms. -/
theorem out7 (x0 : Vec Ideal S4096x256 .f32) (x1 : Vec Ideal S256x256 .f32) (x2 : Vec Ideal S4 .f32) (x3 : Vec Ideal S4 .f32) :
    out0_A_7 c i arg1 harg1 arg2 harg2 arg3 harg3 arg4 harg4 arg5 harg5 arg6 harg6 arg7 harg7 arg8 harg8 x0 x1 x2 x3 = normBlock x0 := by
  funext y
  unfold out0_A_7
  refine View.read_writes_apply_of_pieces _ _ (normBlock x0) _ ?_ y (cover0_A_7 c i arg1 harg1 arg2 harg2 arg3 harg3 arg4 harg4 arg5 harg5 arg6 harg6 arg7 harg7 arg8 harg8 x0 x1 x2 x3 y)
  rw [pieces7]
  refine List.forall_mem_cons.2 ⟨fun x => normL_apply arg1 harg1 x0 3072 inb_S4096x256_S1024x256_3072_0 inb_S4096_S1024_3072 x, ?_⟩
  refine List.forall_mem_cons.2 ⟨fun x => normL_apply arg1 harg1 x0 2048 inb_S4096x256_S1024x256_2048_0 inb_S4096_S1024_2048 x, ?_⟩
  refine List.forall_mem_cons.2 ⟨fun x => normL_apply arg1 harg1 x0 1024 inb_S4096x256_S1024x256_1024_0 inb_S4096_S1024_1024 x, ?_⟩
  refine List.forall_mem_cons.2 ⟨fun x => normL_apply arg1 harg1 x0 0 inb_S4096x256_S1024x256_0_0 inb_S4096_S1024_0 x, ?_⟩
  exact fun p hp => absurd hp List.not_mem_nil

end Outs

end Cert.KernelIdeal.Block
-- ==== Proof.Arrays.lean ====
/-
  What the kernel's four result arrays hold after the run: every entry the specification's row function of its row of
  the input.
-/
module

public import proofs.«01_k».proof.Proof.Block

@[expose] public section

set_option maxRecDepth 16384

noncomputable section

namespace Cert.KernelIdeal.Arrays

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

/-- A row of the input. -/
def row (X : Vec Ideal S65536x256 .f32) (r : Fin 65536) (k : Fin 256) : EReal := X (ix2 r k)

/-- The rows built back. -/
def backArr (X : Vec Ideal S65536x256 .f32) (P : Vec Ideal S256x256 .f32) (C D : Vec Ideal S4 .f32) (y : S65536x256.Idx) : EReal :=
  Spec.back (row X (y 0)) (Chunk.mat P) (Block.tab C) (Block.tab D) (y 1)

/-- The first places. -/
def placeArr (X : Vec Ideal S65536x256 .f32) (P : Vec Ideal S256x256 .f32) (C : Vec Ideal S4 .f32) (y : S65536x256.Idx) : BitVec 32 :=
  Spec.qIdx (Block.tab C) (Spec.rot (row X (y 0)) (Chunk.mat P) (y 1))

/-- The second places. -/
def nextArr (X : Vec Ideal S65536x256 .f32) (P : Vec Ideal S256x256 .f32) (C D : Vec Ideal S4 .f32) (y : S65536x256.Idx) : BitVec 32 :=
  Spec.qIdx (Block.tab D) (Spec.res (Block.tab C) (Spec.rot (row X (y 0)) (Chunk.mat P) (y 1)))

/-- The norms. -/
def normArr (X : Vec Ideal S65536x256 .f32) (y : S65536.Idx) : EReal := Spec.nrm (row X (y 0))

variable (m : (ℓ : Loc nD τ sig) → Buf (Elt Ideal) ℓ) (ρ : Dev nD → PrngReg)

/-! ## Where the blocks lie -/

/-- The input's block at a point begins at the point's row. -/
theorem idx0 : ∀ t : Fin cfg0.N, win0_0.index t (0 : Fin 2) = t.val ∧ win0_0.index t (1 : Fin 2) = 0 :=
  (by decide +kernel : ∀ t : Fin grid0.N, _)

/-- The rotation's one block is the whole of it. -/
theorem idx1 : ∀ t : Fin cfg0.N, win0_1.index t (0 : Fin 2) = 0 ∧ win0_1.index t (1 : Fin 2) = 0 :=
  (by decide +kernel : ∀ t : Fin grid0.N, _)

/-- The one block of either table of centroids is the whole of it. -/
theorem idx23 : ∀ t : Fin cfg0.N, win0_2.index t (0 : Fin 1) = 0 ∧ win0_3.index t (0 : Fin 1) = 0 :=
  (by decide +kernel : ∀ t : Fin grid0.N, _)

/-- The three tall outputs' blocks at a point begin at the point's row. -/
theorem idx456 : ∀ t : Fin cfg0.N, (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The norms' block at a point begins at the point's row. -/
theorem idx7 : ∀ t : Fin cfg0.N, win0_7.index t (0 : Fin 1) = t.val := (by decide +kernel : ∀ t : Fin grid0.N, _)

/-- A placing of blocks of rows in the tall arrays: the block of point `t` begins at row `4096 t`. -/
def Tall (e : Fin cfg0.N → S4096x256.Idx → S65536x256.Idx) : Prop :=
  ∀ t j, (e t j (0 : Fin 2)).val = t.val * 4096 + (j 0).val ∧ e t j (1 : Fin 2) = j 1

/-- A block placed at the point's index along the rows, and whole across, lies as the tall arrays' blocks do. -/
theorem tall_of {e : Fin cfg0.N → S4096x256.Idx → S65536x256.Idx} {x y : Fin cfg0.N → ℕ} (h : ∀ t, x t = t.val ∧ y t = 0)
    (h0 : ∀ t j, (e t j (0 : Fin 2)).val = x t * 4096 + 1 * (j 0).val)
    (h1 : ∀ t j, (e t j (1 : Fin 2)).val = y t * 256 + 1 * (j 1).val) : Tall e := fun t j => by
  obtain ⟨hx, hy⟩ := h t
  refine ⟨by rw [h0, hx]; omega, Fin.ext ?_⟩
  rw [h1, hy]; omega

/-- The first output's blocks lie so. -/
theorem tall4 : Tall fun t j => ((cfg0.win 4).blk t).view.emb j :=
  tall_of (fun t => (idx456 t).1) (fun _ _ => rfl) fun _ _ => rfl

/-- The second output's blocks lie so. -/
theorem tall5 : Tall fun t j => ((cfg0.win 5).blk t).view.emb j :=
  tall_of (fun t => (idx456 t).2.1) (fun _ _ => rfl) fun _ _ => rfl

/-- The third output's blocks lie so. -/
theorem tall6 : Tall fun t j => ((cfg0.win 6).blk t).view.emb j :=
  tall_of (fun t => (idx456 t).2.2) (fun _ _ => rfl) fun _ _ => rfl

/-- Every row and column of a tall array is in some point's block. -/
theorem Tall.onto {e : Fin cfg0.N → S4096x256.Idx → S65536x256.Idx} (h : Tall e) (i : S65536x256.Idx) : ∃ t j, e t j = i := by
  have h0 : (i 0 : Nat) < 65536 := (i 0).isLt
  have hN : cfg0.N = 16 := N_0
  refine ⟨⟨(i 0 : Nat) / 4096, by omega⟩, ix2 (⟨(i 0 : Nat) % 4096, by omega⟩ : Fin 4096) (i 1 : Fin 256), ?_⟩
  obtain ⟨e0, e1⟩ := h ⟨(i 0 : Nat) / 4096, by omega⟩ (ix2 (⟨(i 0 : Nat) % 4096, by omega⟩ : Fin 4096) (i 1 : Fin 256))
  funext a
  match a with
  | ⟨0, _⟩ => exact Fin.ext (e0.trans (by show (i 0 : Nat) / 4096 * 4096 + (i 0 : Nat) % 4096 = (i 0 : Nat); omega))
  | ⟨1, _⟩ => exact e1

/-- An entry of the norms' block lies at the point's row. -/
theorem long7 (t : Fin cfg0.N) (j : S4096.Idx) :
    ((((cfg0.win 7).blk t).view.emb j) (0 : Fin 1)).val = t.val * 4096 + (j 0).val := by
  have e0 := idx7 t
  show win0_7.index t (0 : Fin 1) * 4096 + 1 * (j 0).val = _; omega

/-- Every norm is in some point's block. -/
theorem long7_onto (i : S65536.Idx) : ∃ t j, ((cfg0.win 7).blk t).view.emb j = i := by
  have h0 : (i 0 : Nat) < 65536 := (i 0).isLt
  have hN : cfg0.N = 16 := N_0
  have ht : (i 0 : Nat) / 4096 < cfg0.N := by omega
  refine ⟨⟨(i 0 : Nat) / 4096, ht⟩, ix1 (⟨(i 0 : Nat) % 4096, by omega⟩ : Fin 4096), ?_⟩
  funext a
  match a with
  | ⟨0, _⟩ => exact Fin.ext ((long7 ⟨(i 0 : Nat) / 4096, ht⟩ (ix1 (⟨(i 0 : Nat) % 4096, by omega⟩ : Fin 4096))).trans
      (by show (i 0 : Nat) / 4096 * 4096 + (i 0 : Nat) % 4096 = (i 0 : Nat); omega))

/-- A row of a point's block of the input is the input's row at the block's place. -/
theorem row_iblk (c : Dev nD) (t : Fin cfg0.N) (r : Fin 4096) (R : Fin 65536) (hR : R.val = t.val * 4096 + r.val) :
    Block.row (iblk m c 0 t) r = row (m ((c : Thread nD τ).loc main_arg0)) R := by
  obtain ⟨e0, e1⟩ := idx0 t
  funext k
  show V m c main_arg0 (((cfg0.win 0).blk t).view.emb (ix2 r k)) = V m c main_arg0 (ix2 R k)
  refine congrArg (V m c main_arg0) (funext fun a => Fin.ext ?_)
  match a with
  | ⟨0, _⟩ => show win0_0.index t (0 : Fin 2) * 4096 + 1 * r.val = R.val; omega
  | ⟨1, _⟩ => show win0_0.index t (1 : Fin 2) * 256 + 1 * k.val = k.val; omega

/-- The block of the rotation is the rotation. -/
theorem iblk1_eq (c : Dev nD) (t : Fin cfg0.N) : iblk m c 1 t = m ((c : Thread nD τ).loc main_arg1) := by
  obtain ⟨e0, e1⟩ := idx1 t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- The block of the first table of centroids is the table. -/
theorem iblk2_eq (c : Dev nD) (t : Fin cfg0.N) : iblk m c 2 t = m ((c : Thread nD τ).loc main_arg2) := by
  have e0 := (idx23 t).1
  funext j
  show V m c main_arg2 (((cfg0.win 2).blk t).view.emb j) = V m c main_arg2 j
  refine congrArg (V m c main_arg2) (funext fun a => Fin.ext ?_)
  match a with
  | ⟨0, _⟩ => show win0_2.index t (0 : Fin 1) * 4 + 1 * (j 0).val = (j 0).val; omega

/-- The block of the second table of centroids is the table. -/
theorem iblk3_eq (c : Dev nD) (t : Fin cfg0.N) : iblk m c 3 t = m ((c : Thread nD τ).loc main_arg3) := by
  have e0 := (idx23 t).2
  funext j
  show V m c main_arg3 (((cfg0.win 3).blk t).view.emb j) = V m c main_arg3 j
  refine congrArg (V m c main_arg3) (funext fun a => Fin.ext ?_)
  match a with
  | ⟨0, _⟩ => show win0_3.index t (0 : Fin 1) * 4 + 1 * (j 0).val = (j 0).val; omega

section Tall

variable {e : Fin cfg0.N → S4096x256.Idx → S65536x256.Idx} (h : Tall e) (c : Dev nD) (t : Fin cfg0.N) (j : S4096x256.Idx)
include h

/-- A point's block of rows built back is that block of the whole. -/
theorem Tall.back : Block.backBlock (iblk m c 0 t) (iblk m c 1 t) (iblk m c 2 t) (iblk m c 3 t) j
    = backArr (m ((c : Thread nD τ).loc main_arg0)) (m ((c : Thread nD τ).loc main_arg1)) (m ((c : Thread nD τ).loc main_arg2)) (m ((c : Thread nD τ).loc main_arg3)) (e t j) := by
  unfold Block.backBlock backArr
  rw [row_iblk m c t (j 0) _ (h t j).1, iblk1_eq, iblk2_eq, iblk3_eq, (h t j).2]

/-- A point's block of first places is that block of the whole. -/
theorem Tall.place : Block.placeBlock (iblk m c 0 t) (iblk m c 1 t) (iblk m c 2 t) j
    = placeArr (m ((c : Thread nD τ).loc main_arg0)) (m ((c : Thread nD τ).loc main_arg1)) (m ((c : Thread nD τ).loc main_arg2)) (e t j) := by
  unfold Block.placeBlock placeArr
  rw [row_iblk m c t (j 0) _ (h t j).1, iblk1_eq, iblk2_eq, (h t j).2]

/-- A point's block of second places is that block of the whole. -/
theorem Tall.next : Block.nextBlock (iblk m c 0 t) (iblk m c 1 t) (iblk m c 2 t) (iblk m c 3 t) j
    = nextArr (m ((c : Thread nD τ).loc main_arg0)) (m ((c : Thread nD τ).loc main_arg1)) (m ((c : Thread nD τ).loc main_arg2)) (m ((c : Thread nD τ).loc main_arg3)) (e t j) := by
  unfold Block.nextBlock nextArr
  rw [row_iblk m c t (j 0) _ (h t j).1, iblk1_eq, iblk2_eq, iblk3_eq, (h t j).2]

end Tall

/-- The array of the rows built back after the run. -/
theorem final4 (c : Dev nD) : (dats m 0 c).arrAt 4 cfg0.N = backArr (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) fun i => ?_
  · rw [flushed4_A, Block.out4]
    exact funext fun j => tall4.back m c t j
  · obtain ⟨t, j, rfl⟩ := tall4.onto i
    exact ⟨t, flush0_4 t, ((cfg0.win 4).blk t).view.emb_mem_set j⟩

/-- The array of the first places after the run. -/
theorem final5 (c : Dev nD) : (dats m 0 c).arrAt 5 cfg0.N = placeArr (m ((c : Thread nD τ).loc main_arg0)) (m ((c : Thread nD τ).loc main_arg1)) (m ((c : Thread nD τ).loc main_arg2)) := by
  refine (dats m 0 c).arrAt_eq_of_cover 5 _ (fun t _ => ?_) fun i => ?_
  · rw [flushed5_A, Block.out5]
    exact funext fun j => tall5.place m c t j
  · obtain ⟨t, j, rfl⟩ := tall5.onto i
    exact ⟨t, flush0_5 t, ((cfg0.win 5).blk t).view.emb_mem_set j⟩

/-- The array of the second places after the run. -/
theorem final6 (c : Dev nD) : (dats m 0 c).arrAt 6 cfg0.N = nextArr (m ((c : Thread nD τ).loc main_arg0)) (m ((c : Thread nD τ).loc main_arg1)) (m ((c : Thread nD τ).loc main_arg2)) (m ((c : Thread nD τ).loc main_arg3)) := by
  refine (dats m 0 c).arrAt_eq_of_cover 6 _ (fun t _ => ?_) fun i => ?_
  · rw [flushed6_A, Block.out6]
    exact funext fun j => tall6.next m c t j
  · obtain ⟨t, j, rfl⟩ := tall6.onto i
    exact ⟨t, flush0_6 t, ((cfg0.win 6).blk t).view.emb_mem_set j⟩

/-- The array of the norms after the run: each point writes back its block of them. -/
theorem final7 (c : Dev nD) : (dats m 0 c).arrAt 7 cfg0.N = normArr (m ((c : Thread nD τ).loc main_arg0)) := by
  refine (dats m 0 c).arrAt_eq_of_cover 7 _ (fun t _ => ?_) fun i => ?_
  · rw [flushed7_A, Block.out7]
    funext j
    show Block.normBlock _ j = normArr (m ((c : Thread nD τ).loc main_arg0)) (((cfg0.win 7).blk t).view.emb j)
    unfold Block.normBlock normArr
    rw [row_iblk m c t (j 0) _ (long7 t j)]
  · obtain ⟨t, j, rfl⟩ := long7_onto i
    exact ⟨t, flush0_7 t, ((cfg0.win 7).blk t).view.emb_mem_set j⟩

/-- The run with the four result arrays at the row functions of the arguments, the arguments unchanged. -/
theorem run : θ_run defs (onTc (τ := τ) (main (F := Ideal))) ⟨m, fun _ => 0, ρ⟩ fun r => ∀ c : Dev nD,
      r.2.mem ((c : Thread nD τ).loc main_v0_0) = backArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = placeArr (m ((c : Thread nD τ).loc main_arg0)) (m ((c : Thread nD τ).loc main_arg1)) (m ((c : Thread nD τ).loc main_arg2))
      ∧ r.2.mem ((c : Thread nD τ).loc main_v0_2) = nextArr (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = normArr (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (run_blocks m ρ)

end Cert.KernelIdeal.Arrays
-- ==== Proof.RefRun.lean ====
/-
  The reference program as the list of its host operations, and its run: every execution ends with each
  result at a pure term of the arguments, the arguments unchanged. The terms are built from a few named
  stages, each used by both steps of the quantisation.
-/
module

public import proofs.«01_k».proof.Proof.Gen.ReferenceIdeal
public import Idealize.ShloMosaic.Lib.StableHlo.Run

@[expose] public section

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The norms of the rows. -/
def refNorm (X : FVec F S65536x256 .f32) : FVec F S65536x1 .f32 :=
  Host.sqrt (broadcastInDim S65536x1 ![0] bcast_S65536_S65536x1_0
    (Host.reduceAdd (mulf X X) (constant S_ .f32 0x00000000#32) reducesTo_S65536x256_S65536_d1 h_S_))

/-- The rows divided by their norms and rotated. -/
def refRot (X : FVec F S65536x256 .f32) (P : FVec F S256x256 .f32) : FVec F S65536x256 .f32 :=
  Host.dotGeneral dot_S65536x256_S256x256_S65536x256_1_0_0_1_n_n none
    (Host.divf X (broadcastInDim S65536x256 ![0, 1] bcast_S65536x1_S65536x256_0_1
      (addf (refNorm X) (broadcastInDim S65536x1 ![] bcast_S_S65536x1 (constant S_ .f32 0x322BCC77#32)))))
    (transpose S256x256 [1, 0] P transposes_S256x256_S256x256_1_0)

/-- The distances of every entry to the four centroids. -/
def refDist (V : FVec F S65536x256 .f32) (C : FVec F S4 .f32) : FVec F S65536x256x4 .f32 :=
  Host.absf (subf
    (broadcastInDim S65536x256x4 ![0, 1, 2] bcast_S65536x256x1_S65536x256x4_0_1_2
      (broadcastInDim S65536x256x1 ![0, 1] bcast_S65536x256_S65536x256x1_0_1 V))
    (broadcastInDim S65536x256x4 ![0, 1, 2] bcast_S1x1x4_S65536x256x4_0_1_2
      (broadcastInDim S1x1x4 ![2] bcast_S4_S1x1x4_2 C)))

/-- The indices an arg-min leaves, for arrays of any shape. -/
def argIdx {s t u : Shape} {axes : List (Fin s.rank)} (x : FVec F s .f32) (y : IVec s 32) (ix : FVec F u .f32) (iy : IVec u 32)
    (h : s.ReducesTo axes t) (hu : 0 < u.numel) : IVec t 32 := fun j =>
  (Host.argReduce reducer_argmin_f32_i32 x y ix iy h hu j).2

/-- The first place of the least entry along the last axis. -/
def refArgmin (D : FVec F S65536x256x4 .f32) : IVec S65536x256 32 :=
  argIdx D (iotaInDim S65536x256x4 32 2) (constant S_ .f32 0x7F800000#32) (constantI S_ 32 0#32)
    reducesTo_S65536x256x4_S65536x256_d2 h_S_

/-- The indices to read at, negative ones counted from the end. -/
def refWrap (I : IVec S65536x256 32) : IVec S65536x256x1 32 :=
  broadcastInDim S65536x256x1 ![0, 1] bcast_S65536x256_S65536x256x1_0_1
    (select (cmpi .slt I (broadcastInDim S65536x256 ![] bcast_S_S65536x256 (constantI S_ 32 0#32)))
      (addi I (broadcastInDim S65536x256 ![] bcast_S_S65536x256 (constantI S_ 32 4#32))) I)

/-- Whether each index lies in the table. -/
def refInside (I : IVec S65536x256x1 32) : IVec S65536x256 1 :=
  Host.reduce IntOp.andi
    (andi (cmpi .sge I (broadcastInDim S65536x256x1 ![] bcast_S_S65536x256x1 (constantI S_ 32 0#32)))
      (cmpi .sle I (broadcastInDim S65536x256x1 ![0, 1, 2] bcast_S1x1x1_S65536x256x1_0_1_2
        (broadcastInDim S1x1x1 ![2] bcast_S1_S1x1x1_2 (constantI S1 32 3#32)))))
    (constantI S_ 1 1#1) reducesTo_S65536x256x1_S65536x256_d2 h_S_

/-- The centroids at the given indices. -/
def refTake (C : FVec F S4 .f32) (I : IVec S65536x256 32) : FVec F S65536x256 .f32 :=
  select (refInside (refWrap I)) (Host.gather gather_S4_S65536x256x1_S65536x256_n_0_n_n_0_2_1 C (refWrap I))
    (broadcastInDim S65536x256 ![] bcast_S_S65536x256 (constant S_ .f32 0x7FC00000#32))

/-- The indices of the first step. -/
def refIdx1 (X : FVec F S65536x256 .f32) (P : FVec F S256x256 .f32) (C : FVec F S4 .f32) : IVec S65536x256 32 :=
  refArgmin (refDist (refRot X P) C)

/-- The centroids of the first step. -/
def refVal1 (X : FVec F S65536x256 .f32) (P : FVec F S256x256 .f32) (C : FVec F S4 .f32) : FVec F S65536x256 .f32 :=
  refTake C (refIdx1 X P C)

/-- The indices of the second step. -/
def refIdx2 (X : FVec F S65536x256 .f32) (P : FVec F S256x256 .f32) (C D : FVec F S4 .f32) : IVec S65536x256 32 :=
  refArgmin (refDist (subf (refRot X P) (refVal1 X P C)) D)

/-- The rows built back. -/
def refBack (X : FVec F S65536x256 .f32) (P : FVec F S256x256 .f32) (C D : FVec F S4 .f32) : FVec F S65536x256 .f32 :=
  mulf (Host.dotGeneral dot_S65536x256_S256x256_S65536x256_1_0_0_1_n_n none
      (addf (refVal1 X P C) (refTake D (refIdx2 X P C D))) P)
    (broadcastInDim S65536x256 ![0, 1] bcast_S65536x1_S65536x256_0_1 (refNorm X))

/-- The norms as a vector. -/
def refNormOut (X : FVec F S65536x256 .f32) : FVec F S65536 .f32 := shapeCast S65536 (refNorm X) shapeCasts_S65536x1_S65536

/-! ## The run -/

/-- The program's operations in order, those of a called function in the place of its call. -/
abbrev ops : List (HloOp τ sig (Elt F)) :=
  [ TRef.binary (TRef.of (T := ⟨S65536x256, .f32⟩) main_arg0) (TRef.of (T := ⟨S65536x256, .f32⟩) main_arg0) (TRef.of (T := ⟨S65536x256, .f32⟩) main_call0_v0) mulf,
    TRef.nullary (TRef.of (T := ⟨S_, .f32⟩) main_call0_cst) (constant S_ .f32 0x00000000#32),
    TRef.binary (TRef.of (T := ⟨S65536x256, .f32⟩) main_call0_v0) (TRef.of (T := ⟨S_, .f32⟩) main_call0_cst) (TRef.of (T := ⟨S65536, .f32⟩) main_call0_v1) (fun x v => Host.reduceAdd x v reducesTo_S65536x256_S65536_d1 h_S_),
    TRef.unary (TRef.of (T := ⟨S65536, .f32⟩) main_call0_v1) (TRef.of (T := ⟨S65536x1, .f32⟩) main_call0_v2) (broadcastInDim S65536x1 ![0] bcast_S65536_S65536x1_0),
    TRef.unary (TRef.of (T := ⟨S65536x1, .f32⟩) main_call0_v2) (TRef.of (T := ⟨S65536x1, .f32⟩) main_v0) Host.sqrt,
    nullary main_cst (constant S_ .f32 0x322BCC77#32),
    unary main_cst main_v1 (broadcastInDim S65536x1 ![] bcast_S_S65536x1 : (⟨S_, .f32⟩ : BufTy).Contents (Elt F) → (⟨S65536x1, .f32⟩ : BufTy).Contents (Elt F)),
    binary main_v0 main_v1 main_v2 (addf : (⟨S65536x1, .f32⟩ : BufTy).Contents (Elt F) → (⟨S65536x1, .f32⟩ : BufTy).Contents (Elt F) → (⟨S65536x1, .f32⟩ : BufTy).Contents (Elt F)),
    unary main_v2 main_v3 (broadcastInDim S65536x256 ![0, 1] bcast_S65536x1_S65536x256_0_1 : (⟨S65536x1, .f32⟩ : BufTy).Contents (Elt F) → (⟨S65536x256, .f32⟩ : BufTy).Contents (Elt F)),
    binary main_arg0 main_v3 main_v4 (Host.divf : (⟨S65536x256, .f32⟩ : BufTy).Contents (Elt F) → (⟨S65536x256, .f32⟩ : BufTy).Contents (Elt F) → (⟨S65536x256, .f32⟩ : BufTy).Contents (Elt F)),
    unary main_arg1 main_v5 ((transpose S256x256 [1, 0] · transposes_S256x256_S256x256_1_0) : (⟨S256x256, .f32⟩ : BufTy).Contents (Elt F) → (⟨S256x256, .f32⟩ : BufTy).Contents (Elt F)),
    binary main_v4 main_v5 main_v6 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_v6 main_v7 (broadcastInDim S65536x256x1 ![0, 1] bcast_S65536x256_S65536x256x1_0_1 : (⟨S65536x256, .f32⟩ : BufTy).Contents (Elt F) → (⟨S65536x256x1, .f32⟩ : BufTy).Contents (Elt F)),
    unary main_arg2 main_v8 (broadcastInDim S1x1x4 ![2] bcast_S4_S1x1x4_2 : (⟨S4, .f32⟩ : BufTy).Contents (Elt F) → (⟨S1x1x4, .f32⟩ : BufTy).Contents (Elt F)),
    unary main_v7 main_v9 (broadcastInDim S65536x256x4 ![0, 1, 2] bcast_S65536x256x1_S65536x256x4_0_1_2 : (⟨S65536x256x1, .f32⟩ : BufTy).Contents (Elt F) → (⟨S65536x256x4, .f32⟩ : BufTy).Contents (Elt F)),
    unary main_v8 main_v10 (broadcastInDim S65536x256x4 ![0, 1, 2] bcast_S1x1x4_S65536x256x4_0_1_2 : (⟨S1x1x4, .f32⟩ : BufTy).Contents (Elt F) → (⟨S65536x256x4, .f32⟩ : BufTy).Contents (Elt F)),
    binary main_v9 main_v10 main_v11 (subf : (⟨S65536x256x4, .f32⟩ : BufTy).Contents (Elt F) → (⟨S65536x256x4, .f32⟩ : BufTy).Contents (Elt F) → (⟨S65536x256x4, .f32⟩ : BufTy).Contents (Elt F)),
    unary main_v11 main_v12 (Host.absf : (⟨S65536x256x4, .f32⟩ : BufTy).Contents (Elt F) → (⟨S65536x256x4, .f32⟩ : BufTy).Contents (Elt F)),
    TRef.nullary (TRef.of (T := ⟨S65536x256x4, .i32⟩) main_call1_v0) (iotaInDim S65536x256x4 32 2),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S65536x256x4, .f32⟩) main_v12) (TRef.of (T := ⟨S65536x256x4, .i32⟩) main_call1_v0) (TRef.of (T := ⟨S_, .f32⟩) main_call1_cst) (TRef.of (T := ⟨S_, .i32⟩) main_call1_c) (TRef.of (T := ⟨S65536x256, .f32⟩) main_call1_v1_0) (fun x y u v j => (Host.argReduce reducer_argmin_f32_i32 x y u v reducesTo_S65536x256x4_S65536x256_d2 h_S_ j).1),
    TRef.quaternary (TRef.of (T := ⟨S65536x256x4, .f32⟩) main_v12) (TRef.of (T := ⟨S65536x256x4, .i32⟩) main_call1_v0) (TRef.of (T := ⟨S_, .f32⟩) main_call1_cst) (TRef.of (T := ⟨S_, .i32⟩) main_call1_c) (TRef.of (T := ⟨S65536x256, .i32⟩) main_v13) (fun x y u v j => (Host.argReduce reducer_argmin_f32_i32 x y u v reducesTo_S65536x256x4_S65536x256_d2 h_S_ j).2),
    TRef.nullary (TRef.of (T := ⟨S_, .i32⟩) main_call2_c) (constantI S_ 32 0#32),
    TRef.unary (TRef.of (T := ⟨S_, .i32⟩) main_call2_c) (TRef.of (T := ⟨S65536x256, .i32⟩) main_call2_v0) (broadcastInDim S65536x256 ![] bcast_S_S65536x256),
    TRef.binary (TRef.of (T := ⟨S65536x256, .i32⟩) main_v13) (TRef.of (T := ⟨S65536x256, .i32⟩) main_call2_v0) (TRef.of (T := ⟨S65536x256, .i1⟩) main_call2_v1) (cmpi .slt),
    TRef.nullary (TRef.of (T := ⟨S_, .i32⟩) main_call2_c_0) (constantI S_ 32 4#32),
    TRef.unary (TRef.of (T := ⟨S_, .i32⟩) main_call2_c_0) (TRef.of (T := ⟨S65536x256, .i32⟩) main_call2_v2) (broadcastInDim S65536x256 ![] bcast_S_S65536x256),
    TRef.binary (TRef.of (T := ⟨S65536x256, .i32⟩) main_v13) (TRef.of (T := ⟨S65536x256, .i32⟩) main_call2_v2) (TRef.of (T := ⟨S65536x256, .i32⟩) main_call2_v3) addi,
    TRef.ternary (TRef.of (T := ⟨S65536x256, .i1⟩) main_call2_v1) (TRef.of (T := ⟨S65536x256, .i32⟩) main_call2_v3) (TRef.of (T := ⟨S65536x256, .i32⟩) main_v13) (TRef.of (T := ⟨S65536x256, .i32⟩) main_call2_v4) select,
    TRef.unary (TRef.of (T := ⟨S65536x256, .i32⟩) main_call2_v4) (TRef.of (T := ⟨S65536x256x1, .i32⟩) main_call2_v5) (broadcastInDim S65536x256x1 ![0, 1] bcast_S65536x256_S65536x256x1_0_1),
    TRef.nullary (TRef.of (T := ⟨S1, .i32⟩) main_call2_c_1) (constantI S1 32 3#32),
    TRef.nullary (TRef.of (T := ⟨S_, .i32⟩) main_call2_c_2) (constantI S_ 32 0#32),
    TRef.unary (TRef.of (T := ⟨S_, .i32⟩) main_call2_c_2) (TRef.of (T := ⟨S65536x256x1, .i32⟩) main_call2_v6) (broadcastInDim S65536x256x1 ![] bcast_S_S65536x256x1),
    TRef.binary (TRef.of (T := ⟨S65536x256x1, .i32⟩) main_call2_v5) (TRef.of (T := ⟨S65536x256x1, .i32⟩) main_call2_v6) (TRef.of (T := ⟨S65536x256x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S65536x256x1, .i32⟩) main_call2_v9) (broadcastInDim S65536x256x1 ![0, 1, 2] bcast_S1x1x1_S65536x256x1_0_1_2),
    TRef.binary (TRef.of (T := ⟨S65536x256x1, .i32⟩) main_call2_v5) (TRef.of (T := ⟨S65536x256x1, .i32⟩) main_call2_v9) (TRef.of (T := ⟨S65536x256x1, .i1⟩) main_call2_v10) (cmpi .sle),
    TRef.binary (TRef.of (T := ⟨S65536x256x1, .i1⟩) main_call2_v7) (TRef.of (T := ⟨S65536x256x1, .i1⟩) main_call2_v10) (TRef.of (T := ⟨S65536x256x1, .i1⟩) main_call2_v11) andi,
    TRef.nullary (TRef.of (T := ⟨S_, .i1⟩) main_call2_c_3) (constantI S_ 1 1#1),
    TRef.binary (TRef.of (T := ⟨S65536x256x1, .i1⟩) main_call2_v11) (TRef.of (T := ⟨S_, .i1⟩) main_call2_c_3) (TRef.of (T := ⟨S65536x256, .i1⟩) main_call2_v12) (fun x v => Host.reduce IntOp.andi x v reducesTo_S65536x256x1_S65536x256_d2 h_S_),
    TRef.binary (TRef.of (T := ⟨S4, .f32⟩) main_arg2) (TRef.of (T := ⟨S65536x256x1, .i32⟩) main_call2_v5) (TRef.of (T := ⟨S65536x256, .f32⟩) main_call2_v13) (fun x i => Host.gather gather_S4_S65536x256x1_S65536x256_n_0_n_n_0_2_1 x i),
    TRef.nullary (TRef.of (T := ⟨S_, .f32⟩) main_call2_cst) (constant S_ .f32 0x7FC00000#32),
    TRef.unary (TRef.of (T := ⟨S_, .f32⟩) main_call2_cst) (TRef.of (T := ⟨S65536x256, .f32⟩) main_call2_v14) (broadcastInDim S65536x256 ![] bcast_S_S65536x256),
    TRef.ternary (TRef.of (T := ⟨S65536x256, .i1⟩) main_call2_v12) (TRef.of (T := ⟨S65536x256, .f32⟩) main_call2_v13) (TRef.of (T := ⟨S65536x256, .f32⟩) main_call2_v14) (TRef.of (T := ⟨S65536x256, .f32⟩) main_v14) select,
    binary main_v6 main_v14 main_v15 (subf : (⟨S65536x256, .f32⟩ : BufTy).Contents (Elt F) → (⟨S65536x256, .f32⟩ : BufTy).Contents (Elt F) → (⟨S65536x256, .f32⟩ : BufTy).Contents (Elt F)),
    unary main_v15 main_v16 (broadcastInDim S65536x256x1 ![0, 1] bcast_S65536x256_S65536x256x1_0_1 : (⟨S65536x256, .f32⟩ : BufTy).Contents (Elt F) → (⟨S65536x256x1, .f32⟩ : BufTy).Contents (Elt F)),
    unary main_arg3 main_v17 (broadcastInDim S1x1x4 ![2] bcast_S4_S1x1x4_2 : (⟨S4, .f32⟩ : BufTy).Contents (Elt F) → (⟨S1x1x4, .f32⟩ : BufTy).Contents (Elt F)),
    unary main_v16 main_v18 (broadcastInDim S65536x256x4 ![0, 1, 2] bcast_S65536x256x1_S65536x256x4_0_1_2 : (⟨S65536x256x1, .f32⟩ : BufTy).Contents (Elt F) → (⟨S65536x256x4, .f32⟩ : BufTy).Contents (Elt F)),
    unary main_v17 main_v19 (broadcastInDim S65536x256x4 ![0, 1, 2] bcast_S1x1x4_S65536x256x4_0_1_2 : (⟨S1x1x4, .f32⟩ : BufTy).Contents (Elt F) → (⟨S65536x256x4, .f32⟩ : BufTy).Contents (Elt F)),
    binary main_v18 main_v19 main_v20 (subf : (⟨S65536x256x4, .f32⟩ : BufTy).Contents (Elt F) → (⟨S65536x256x4, .f32⟩ : BufTy).Contents (Elt F) → (⟨S65536x256x4, .f32⟩ : BufTy).Contents (Elt F)),
    unary main_v20 main_v21 (Host.absf : (⟨S65536x256x4, .f32⟩ : BufTy).Contents (Elt F) → (⟨S65536x256x4, .f32⟩ : BufTy).Contents (Elt F)),
    TRef.nullary (TRef.of (T := ⟨S65536x256x4, .i32⟩) main_call3_v0) (iotaInDim S65536x256x4 32 2),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S65536x256x4, .f32⟩) main_v21) (TRef.of (T := ⟨S65536x256x4, .i32⟩) main_call3_v0) (TRef.of (T := ⟨S_, .f32⟩) main_call3_cst) (TRef.of (T := ⟨S_, .i32⟩) main_call3_c) (TRef.of (T := ⟨S65536x256, .f32⟩) main_call3_v1_0) (fun x y u v j => (Host.argReduce reducer_argmin_f32_i32 x y u v reducesTo_S65536x256x4_S65536x256_d2 h_S_ j).1),
    TRef.quaternary (TRef.of (T := ⟨S65536x256x4, .f32⟩) main_v21) (TRef.of (T := ⟨S65536x256x4, .i32⟩) main_call3_v0) (TRef.of (T := ⟨S_, .f32⟩) main_call3_cst) (TRef.of (T := ⟨S_, .i32⟩) main_call3_c) (TRef.of (T := ⟨S65536x256, .i32⟩) main_v22) (fun x y u v j => (Host.argReduce reducer_argmin_f32_i32 x y u v reducesTo_S65536x256x4_S65536x256_d2 h_S_ j).2),
    TRef.nullary (TRef.of (T := ⟨S_, .i32⟩) main_call4_c) (constantI S_ 32 0#32),
    TRef.unary (TRef.of (T := ⟨S_, .i32⟩) main_call4_c) (TRef.of (T := ⟨S65536x256, .i32⟩) main_call4_v0) (broadcastInDim S65536x256 ![] bcast_S_S65536x256),
    TRef.binary (TRef.of (T := ⟨S65536x256, .i32⟩) main_v22) (TRef.of (T := ⟨S65536x256, .i32⟩) main_call4_v0) (TRef.of (T := ⟨S65536x256, .i1⟩) main_call4_v1) (cmpi .slt),
    TRef.nullary (TRef.of (T := ⟨S_, .i32⟩) main_call4_c_0) (constantI S_ 32 4#32),
    TRef.unary (TRef.of (T := ⟨S_, .i32⟩) main_call4_c_0) (TRef.of (T := ⟨S65536x256, .i32⟩) main_call4_v2) (broadcastInDim S65536x256 ![] bcast_S_S65536x256),
    TRef.binary (TRef.of (T := ⟨S65536x256, .i32⟩) main_v22) (TRef.of (T := ⟨S65536x256, .i32⟩) main_call4_v2) (TRef.of (T := ⟨S65536x256, .i32⟩) main_call4_v3) addi,
    TRef.ternary (TRef.of (T := ⟨S65536x256, .i1⟩) main_call4_v1) (TRef.of (T := ⟨S65536x256, .i32⟩) main_call4_v3) (TRef.of (T := ⟨S65536x256, .i32⟩) main_v22) (TRef.of (T := ⟨S65536x256, .i32⟩) main_call4_v4) select,
    TRef.unary (TRef.of (T := ⟨S65536x256, .i32⟩) main_call4_v4) (TRef.of (T := ⟨S65536x256x1, .i32⟩) main_call4_v5) (broadcastInDim S65536x256x1 ![0, 1] bcast_S65536x256_S65536x256x1_0_1),
    TRef.nullary (TRef.of (T := ⟨S1, .i32⟩) main_call4_c_1) (constantI S1 32 3#32),
    TRef.nullary (TRef.of (T := ⟨S_, .i32⟩) main_call4_c_2) (constantI S_ 32 0#32),
    TRef.unary (TRef.of (T := ⟨S_, .i32⟩) main_call4_c_2) (TRef.of (T := ⟨S65536x256x1, .i32⟩) main_call4_v6) (broadcastInDim S65536x256x1 ![] bcast_S_S65536x256x1),
    TRef.binary (TRef.of (T := ⟨S65536x256x1, .i32⟩) main_call4_v5) (TRef.of (T := ⟨S65536x256x1, .i32⟩) main_call4_v6) (TRef.of (T := ⟨S65536x256x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S65536x256x1, .i32⟩) main_call4_v9) (broadcastInDim S65536x256x1 ![0, 1, 2] bcast_S1x1x1_S65536x256x1_0_1_2),
    TRef.binary (TRef.of (T := ⟨S65536x256x1, .i32⟩) main_call4_v5) (TRef.of (T := ⟨S65536x256x1, .i32⟩) main_call4_v9) (TRef.of (T := ⟨S65536x256x1, .i1⟩) main_call4_v10) (cmpi .sle),
    TRef.binary (TRef.of (T := ⟨S65536x256x1, .i1⟩) main_call4_v7) (TRef.of (T := ⟨S65536x256x1, .i1⟩) main_call4_v10) (TRef.of (T := ⟨S65536x256x1, .i1⟩) main_call4_v11) andi,
    TRef.nullary (TRef.of (T := ⟨S_, .i1⟩) main_call4_c_3) (constantI S_ 1 1#1),
    TRef.binary (TRef.of (T := ⟨S65536x256x1, .i1⟩) main_call4_v11) (TRef.of (T := ⟨S_, .i1⟩) main_call4_c_3) (TRef.of (T := ⟨S65536x256, .i1⟩) main_call4_v12) (fun x v => Host.reduce IntOp.andi x v reducesTo_S65536x256x1_S65536x256_d2 h_S_),
    TRef.binary (TRef.of (T := ⟨S4, .f32⟩) main_arg3) (TRef.of (T := ⟨S65536x256x1, .i32⟩) main_call4_v5) (TRef.of (T := ⟨S65536x256, .f32⟩) main_call4_v13) (fun x i => Host.gather gather_S4_S65536x256x1_S65536x256_n_0_n_n_0_2_1 x i),
    TRef.nullary (TRef.of (T := ⟨S_, .f32⟩) main_call4_cst) (constant S_ .f32 0x7FC00000#32),
    TRef.unary (TRef.of (T := ⟨S_, .f32⟩) main_call4_cst) (TRef.of (T := ⟨S65536x256, .f32⟩) main_call4_v14) (broadcastInDim S65536x256 ![] bcast_S_S65536x256),
    TRef.ternary (TRef.of (T := ⟨S65536x256, .i1⟩) main_call4_v12) (TRef.of (T := ⟨S65536x256, .f32⟩) main_call4_v13) (TRef.of (T := ⟨S65536x256, .f32⟩) main_call4_v14) (TRef.of (T := ⟨S65536x256, .f32⟩) main_v23) select,
    binary main_v14 main_v23 main_v24 (addf : (⟨S65536x256, .f32⟩ : BufTy).Contents (Elt F) → (⟨S65536x256, .f32⟩ : BufTy).Contents (Elt F) → (⟨S65536x256, .f32⟩ : BufTy).Contents (Elt F)),
    binary main_v24 main_arg1 main_v25 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_v0 main_v26 (broadcastInDim S65536x256 ![0, 1] bcast_S65536x1_S65536x256_0_1 : (⟨S65536x1, .f32⟩ : BufTy).Contents (Elt F) → (⟨S65536x256, .f32⟩ : BufTy).Contents (Elt F)),
    binary main_v25 main_v26 main_v27 (mulf : (⟨S65536x256, .f32⟩ : BufTy).Contents (Elt F) → (⟨S65536x256, .f32⟩ : BufTy).Contents (Elt F) → (⟨S65536x256, .f32⟩ : BufTy).Contents (Elt F)),
    reshape main_v0 main_v28 (rfl : (.f32 : EltTy) = .f32) shapeCasts_S65536x1_S65536 ]

set_option maxRecDepth 8192 in
set_option maxHeartbeats 4000000 in
/-- The program is the sequence of these operations. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- The operations name only the core's own buffers. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., binary_bufs_sub .., unary_bufs_sub .., binary_bufs_sub .., reshape_bufs_sub ..⟩

set_option maxRecDepth 8192 in
set_option maxHeartbeats 32000000 in
/-- Every execution of the reference ends with each result at its term of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = refBack (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v13) = refIdx1 (m ((c.tc : Thread nD τ).loc main_arg0)) (m ((c.tc : Thread nD τ).loc main_arg1)) (m ((c.tc : Thread nD τ).loc main_arg2))
      ∧ r.2.mem ((c.tc : Thread nD τ).loc main_v22) = refIdx2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v28) = refNormOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c main_v27).trans ?_, (h c main_v13).trans ?_, (h c main_v22).trans ?_, (h c main_v28).trans ?_,
      (h c main_arg0).trans ?_, (h c main_arg1).trans ?_, (h c main_arg2).trans ?_, (h c main_arg3).trans ?_⟩ <;>
    · simp only [ops, TRef.binary, TRef.nullary, TRef.ternary, TRef.unary, TRef.quaternary, TRef.toBuf, TRef.ofBuf, cast_eq]
      after_results_simp <;> rfl)
    (run_seq scopedRefs_eq scopedSems_eq defs main (fun _ => ops) main_eq (fun _ => ops_sub) m ρ)

end Cert.ReferenceIdeal.RefRun
-- ==== Proof.Argmin.lean ====
/-
  The reference's arg-min over the four distances of an entry, on extended reals: the fold leaves one of
  the pairs it was given that is not above any of them, in the order "less value, or as great a value
  and no greater index". So it leaves the index of the first least distance.
-/
module

public import proofs.«01_k».proof.Proof.RefRun
public import Idealize.ShloMosaic.PureOps.Ideal.Laws
public import Idealize.ShloMosaic.Lib.ValueIdx

@[expose] public section

noncomputable section

namespace Cert.ReferenceIdeal.Argmin

open Cert.ReferenceIdeal Cert.ReferenceIdeal.Gen Cert.ReferenceIdeal.RefRun Idealize.ShloMosaic Idealize.ShloMosaic.ValueIdx

/-- A pair of a value and an index that comes no later than another. -/
def NotAfter (a b : EReal × BitVec 32) : Prop := a.1 < b.1 ∨ (a.1 = b.1 ∧ a.2.toInt ≤ b.2.toInt)

/-- A pair comes no later than itself. -/
theorem NotAfter.refl (a : EReal × BitVec 32) : NotAfter a a := .inr ⟨rfl, le_rfl⟩

/-- The order of pairs is transitive. -/
theorem NotAfter.trans {a b c : EReal × BitVec 32} (h : NotAfter a b) (h' : NotAfter b c) : NotAfter a c := by
  rcases h with h | ⟨h, hi⟩
  · rcases h' with h' | ⟨h', _⟩
    · exact .inl (h.trans h')
    · exact .inl (h' ▸ h)
  · rcases h' with h' | ⟨h', hi'⟩
    · exact .inl (h ▸ h')
    · exact .inr ⟨h.trans h', hi.trans hi'⟩

/-- Two pairs neither of which comes after the other are equal. -/
theorem NotAfter.antisymm {a b : EReal × BitVec 32} (h : NotAfter a b) (h' : NotAfter b a) : a = b := by
  rcases h with h | ⟨h, hi⟩
  · rcases h' with h' | ⟨h', _⟩
    · exact absurd h h'.not_gt
    · exact absurd h'.symm h.ne
  · rcases h' with h' | ⟨_, hi'⟩
    · exact absurd h.symm h'.ne
    · exact Prod.ext h (BitVec.eq_of_toInt_eq (le_antisymm hi hi'))

/-- The body of the arg-min on extended reals: the first pair if it is less or comes earlier at the same value. -/
theorem reducer_eq (a b : EReal × BitVec 32) :
    reducer_argmin_f32_i32 (F := Ideal) a b
      = (if a.1 < b.1 then a.1 else b.1, if a.1 < b.1 ∨ (a.1 = b.1 ∧ a.2.toInt < b.2.toInt) then a.2 else b.2) := by
  unfold reducer_argmin_f32_i32
  simp only [Ideal.cmpf_def, Ideal.cmp, Scalar.select, IntOp.ori, IntOp.andi, IntOp.cmpi]
  by_cases h1 : a.1 < b.1 <;> by_cases h2 : a.1 = b.1 <;> by_cases h3 : a.2.toInt < b.2.toInt <;>
    simp [h1, h2, h3, BitVec.slt]

/-- The body leaves a pair no later than either, and one of the two. -/
theorem reducer_spec (a b : EReal × BitVec 32) :
    (reducer_argmin_f32_i32 (F := Ideal) a b = a ∨ reducer_argmin_f32_i32 (F := Ideal) a b = b)
      ∧ NotAfter (reducer_argmin_f32_i32 (F := Ideal) a b) a ∧ NotAfter (reducer_argmin_f32_i32 (F := Ideal) a b) b := by
  rw [reducer_eq]
  by_cases h1 : a.1 < b.1
  · rw [if_pos h1, if_pos (.inl h1)]
    exact ⟨.inl rfl, .refl _, .inl h1⟩
  · by_cases h2 : a.1 = b.1 ∧ a.2.toInt < b.2.toInt
    · rw [if_neg h1, if_pos (.inr h2), ← h2.1]
      exact ⟨.inl rfl, .refl _, .inr ⟨h2.1, h2.2.le⟩⟩
    · rw [if_neg h1, if_neg (by simp only [h1, h2, or_self, not_false_eq_true])]
      refine ⟨.inr rfl, ?_, .refl _⟩
      rcases (not_lt.mp h1).lt_or_eq with h | h
      · exact .inl h
      · exact .inr ⟨h, not_lt.mp fun h3 => h2 ⟨h.symm, h3⟩⟩

/-- The fold leaves one of its pairs that comes no later than any of them. -/
theorem fold_spec (l : List (EReal × BitVec 32)) : ∀ i : EReal × BitVec 32,
    (l.foldl (reducer_argmin_f32_i32 (F := Ideal)) i = i ∨ l.foldl (reducer_argmin_f32_i32 (F := Ideal)) i ∈ l)
      ∧ NotAfter (l.foldl (reducer_argmin_f32_i32 (F := Ideal)) i) i
      ∧ ∀ p ∈ l, NotAfter (l.foldl (reducer_argmin_f32_i32 (F := Ideal)) i) p := by
  induction l with
  | nil => exact fun i => ⟨.inl rfl, .refl _, fun p hp => absurd hp List.not_mem_nil⟩
  | cons q l ih =>
    intro i
    obtain ⟨hm, hi, hl⟩ := ih (reducer_argmin_f32_i32 (F := Ideal) i q)
    obtain ⟨ho, h1, h2⟩ := reducer_spec i q
    rw [List.foldl_cons]
    refine ⟨?_, hi.trans h1, fun p hp => ?_⟩
    · rcases hm with hm | hm
      · rcases ho with ho | ho
        · exact .inl (hm.trans ho)
        · exact .inr (by rw [hm, ho]; exact List.mem_cons_self)
      · exact .inr (List.mem_cons_of_mem _ hm)
    · rcases List.mem_cons.mp hp with rfl | hp
      · exact hi.trans h2
      · exact hl p hp

/-- An entry of the distances reduces into the place of its first two coordinates. -/
theorem drop_eq_iff (i : S65536x256x4.Idx) (j : S65536x256.Idx) :
    reducesTo_S65536x256x4_S65536x256_d2.drop i = j ↔ (i 0).val = (j 0).val ∧ (i 1).val = (j 1).val := by
  have h0 := Shape.ReducesTo.drop_apply_val_of_eq reducesTo_S65536x256x4_S65536x256_d2 i 0 0
  have h1 := Shape.ReducesTo.drop_apply_val_of_eq reducesTo_S65536x256x4_S65536x256_d2 i 1 1
  constructor
  · rintro rfl
    exact ⟨h0.symm, h1.symm⟩
  · rintro ⟨e0, e1⟩
    funext a
    match a with
    | ⟨0, _⟩ => exact Fin.ext (h0.trans e0)
    | ⟨1, _⟩ => exact Fin.ext (h1.trans e1)

/-- The arg-min leaves the index of an entry that comes no later than any other that reduces to the same place, nor than
the initial pair. -/
theorem argReduce_snd {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx) (i : s.Idx)
    (hi : h.drop i = j) (hall : ∀ i', h.drop i' = j → NotAfter (x i, y i) (x i', y i'))
    (hinit : NotAfter (x i, y i) (ix (Shape.Idx.first hu), iy (Shape.Idx.first hu))) :
    argIdx (F := Ideal) x y ix iy h hu j = y i := by
  unfold argIdx
  rw [Ideal.argReduce_eq_reduce2, Host.reduce2_eq_foldl_fiber]
  obtain ⟨hm, _, hl⟩ := fold_spec (Host.argReduceFiber x y h j) (ix (Shape.Idx.first hu), iy (Shape.Idx.first hu))
  have hmem : (x i, y i) ∈ Host.argReduceFiber x y h j := by
    refine List.mem_map.mpr ⟨s.rowMajor i, List.mem_filter.mpr ⟨List.mem_finRange _, ?_⟩, ?_⟩
    · rw [Equiv.symm_apply_apply, decide_eq_true_eq]; exact hi
    · rw [Equiv.symm_apply_apply]
  have hle : NotAfter (x i, y i)
      ((Host.argReduceFiber x y h j).foldl (reducer_argmin_f32_i32 (F := Ideal)) (ix (Shape.Idx.first hu), iy (Shape.Idx.first hu))) := by
    rcases hm with hm | hm
    · rw [hm]; exact hinit
    · obtain ⟨n, hn, e⟩ := List.mem_map.mp hm
      rw [← e]
      exact hall _ (of_decide_eq_true (List.mem_filter.mp hn).2)
  exact congrArg Prod.snd ((hl _ hmem).antisymm hle)

/-- The words of the four places, read signed. -/
theorem toInt_place (n : Fin 4) : (BitVec.ofNat 32 n.val).toInt = n.val := by
  revert n; decide

/-- The f32 pattern the arg-min starts from is infinity. -/
theorem ofBits_top : Ideal.ofBits .f32 0x7F800000#32 = ⊤ := by simp [Ideal.ofBits, Ideal.ieee]

/-- The arg-min at an entry is the place `k` of the first least distance, when that distance is finite. -/
theorem refArgmin_eq (D : FVec Ideal S65536x256x4 .f32) (r : Fin 65536) (c : Fin 256) (k : Fin 4)
    (hT : D (ix3 r c k) < (⊤ : EReal))
    (hk : ∀ j : Fin 4, (D (ix3 r c k) : EReal) < D (ix3 r c j) ∨ ((D (ix3 r c k) : EReal) = D (ix3 r c j) ∧ k ≤ j)) :
    refArgmin (F := Ideal) D (ix2 r c) = BitVec.ofNat 32 k.val := by
  refine argReduce_snd D (iotaInDim S65536x256x4 32 2) _ _ _ _ (ix2 r c) (ix3 r c k) ?_ (fun i hd => ?_) (.inl ?_)
  · rw [drop_eq_iff]; exact ⟨rfl, rfl⟩
  · obtain ⟨e0, e1⟩ := (drop_eq_iff _ _).mp hd
    obtain ⟨j, rfl⟩ : ∃ j : Fin 4, i = ix3 r c j := ⟨i 2, by
      funext a
      match a with
      | ⟨0, _⟩ => exact Fin.ext e0
      | ⟨1, _⟩ => exact Fin.ext e1
      | ⟨2, _⟩ => rfl⟩
    rcases hk j with h | ⟨h, h'⟩
    · exact .inl h
    · refine .inr ⟨h, ?_⟩
      show (BitVec.ofNat 32 k.val).toInt ≤ (BitVec.ofNat 32 j.val).toInt
      rw [toInt_place, toInt_place]; exact_mod_cast h'
  · show D (ix3 r c k) < Ideal.ofBits .f32 0x7F800000#32
    rw [ofBits_top]; exact hT

end Cert.ReferenceIdeal.Argmin
-- ==== Proof.RefRead.lean ====
/-
  The reference's results read at an index, on extended reals, as the row functions of the specification: the
  norms and the built-back rows always, the indices of the two steps when the rotation's entries are real and the
  centroids strictly increasing.
-/
module

public import proofs.«01_k».proof.Proof.Argmin
public import proofs.«01_k».proof.Proof.DotSum
public import proofs.«01_k».proof.Proof.Spec
public import Idealize.ShloMosaic.Lib.Pipeline.Value
public import Idealize.ShloMosaic.Lib.ReduceAll
public import Idealize.ShloMosaic.Lib.IdealHost

@[expose] public section

set_option maxRecDepth 16384

noncomputable section

namespace Cert.ReferenceIdeal.RefRead

open Cert.ReferenceIdeal Cert.ReferenceIdeal.Gen Cert.ReferenceIdeal.RefRun Cert.ReferenceIdeal.Argmin
open Idealize.ShloMosaic Idealize.ShloMosaic.ValueIdx
open scoped BigOperators

/-- A row of the input. -/
def row (X : FVec Ideal S65536x256 .f32) (r : Fin 65536) (k : Fin 256) : EReal := X (ix2 r k)

/-- The rotation's entries by row and column. -/
def mat (P : FVec Ideal S256x256 .f32) (j k : Fin 256) : EReal := P (ix2 j k)

/-- The centroids by place. -/
def tab (C : FVec Ideal S4 .f32) (k : Fin 4) : EReal := C (ix1 k)

/-- The host's square root at an entry. -/
theorem hostSqrt_at {s : Shape} (x : FVec Ideal s .f32) (i : s.Idx) : Host.sqrt (F := Ideal) x i = Ideal.sqrt (x i) := rfl

/-- A sum of arrays at an entry. -/
theorem addf_at {s : Shape} (x y : FVec Ideal s .f32) (i : s.Idx) : addf (F := Ideal) x y i = (x i + y i : EReal) := rfl

/-- A product of arrays at an entry. -/
theorem mulf_at {s : Shape} (x y : FVec Ideal s .f32) (i : s.Idx) : mulf (F := Ideal) x y i = (x i * y i : EReal) := rfl

/-- A difference of arrays at an entry. -/
theorem subf_at {s : Shape} (x y : FVec Ideal s .f32) (i : s.Idx) : subf (F := Ideal) x y i = (x i - y i : EReal) := rfl

/-- The reference's norms are the rows' norms. -/
theorem refNorm_apply (X : FVec Ideal S65536x256 .f32) (r : Fin 65536) (z : Fin 1) :
    refNorm (F := Ideal) X (ix2 r z) = Spec.nrm (row X r) := by
  unfold refNorm
  rw [hostSqrt_at, broadcastInDim_apply _ bcast_S65536_S65536x1_0 _ (ix2 r z) (ix1 r) (fun a => match a with
    | ⟨0, _⟩ => by show r.val = if (65536 : Nat) = 1 then 0 else r.val; rw [if_neg (by decide)])]
  rw [hostReduceAdd_apply, Ideal.hostReduceAdd_single reducesTo_S65536x256_S65536_d1 (by decide)]
  show Ideal.sqrt (Ideal.ofBits .f32 0x00000000#32 + _) = _
  rw [Ideal.ofBits_zero_f32, zero_add]
  unfold Spec.nrm
  refine congrArg Ideal.sqrt (Finset.sum_congr rfl fun k _ => ?_)
  have e : Shape.Reduces.lift (s := S65536x256) (t := S65536) (a := 1) (by decide) (ix1 r) k = ix2 r k :=
    funext fun a => Fin.ext (by match a with | ⟨0, _⟩ => rfl | ⟨1, _⟩ => rfl)
  rw [e]; rfl

/-- A product with a matrix on the right, at an entry. -/
theorem dot_apply (A : FVec Ideal S65536x256 .f32) (B : FVec Ideal S256x256 .f32) (r : Fin 65536) (c : Fin 256) :
    Host.dotGeneral (F := Ideal) dot_S65536x256_S256x256_S65536x256_1_0_0_1_n_n none A B (ix2 r c)
      = ∑ k : Fin 256, (A (ix2 r k) : EReal) * B (ix2 k c) := by
  simp only [Host.dotGeneral]
  rw [Ideal.dotGeneral_apply]
  refine DotSum.sum_contr dot_S65536x256_S256x256_S65536x256_1_0_0_1_n_n 256 rfl rfl A B (ix2 r c) (fun k => ix2 r k) (fun k => ix2 k c)
    (fun q a => match a with
      | ⟨0, _⟩ => DotSum.lhs_kept dot_S65536x256_S256x256_S65536x256_1_0_0_1_n_n 0 rfl rfl (by decide) (ix2 r c) q
      | ⟨1, _⟩ => dot_S65536x256_S256x256_S65536x256_1_0_0_1_n_n.lhsIdx_val_of_single rfl (ix2 r c) q)
    (fun q a => match a with
      | ⟨0, _⟩ => dot_S65536x256_S256x256_S65536x256_1_0_0_1_n_n.rhsIdx_val_of_single rfl (ix2 r c) q
      | ⟨1, _⟩ => DotSum.rhs_kept dot_S65536x256_S256x256_S65536x256_1_0_0_1_n_n 1 rfl rfl rfl rfl (by decide) (ix2 r c) q)

/-- A column of one entry per row, spread over the columns. -/
theorem spread_apply (N : FVec Ideal S65536x1 .f32) (r : Fin 65536) (c : Fin 256) :
    broadcastInDim S65536x256 ![0, 1] bcast_S65536x1_S65536x256_0_1 N (ix2 r c) = N (ix2 r 0) :=
  broadcastInDim_apply _ bcast_S65536x1_S65536x256_0_1 N (ix2 r c) (ix2 r 0) (fun a => match a with
    | ⟨0, _⟩ => by show r.val = if (65536 : Nat) = 1 then 0 else r.val; rw [if_neg (by decide)]
    | ⟨1, _⟩ => by show 0 = if (1 : Nat) = 1 then 0 else c.val; rw [if_pos rfl])

/-- The reference's rotated rows. -/
theorem refRot_apply (X : FVec Ideal S65536x256 .f32) (P : FVec Ideal S256x256 .f32) (r : Fin 65536) (c : Fin 256) :
    refRot (F := Ideal) X P (ix2 r c) = Spec.rot (row X r) (mat P) c := by
  unfold refRot
  rw [dot_apply]
  unfold Spec.rot
  refine Finset.sum_congr rfl fun k _ => ?_
  rw [hostDivf_apply, spread_apply]
  rw [transpose_apply [1, 0] P transposes_S256x256_S256x256_1_0 (ix2 k c) (ix2 c k) (fun a => by
    match a with | ⟨0, _⟩ => rfl | ⟨1, _⟩ => rfl)]
  rw [addf_at, refNorm_apply, broadcastInDim_scalar_apply]
  rfl

/-- The reference's distances. -/
theorem refDist_apply (V : FVec Ideal S65536x256 .f32) (C : FVec Ideal S4 .f32) (r : Fin 65536) (c : Fin 256) (k : Fin 4) :
    refDist (F := Ideal) V C (ix3 r c k) = Spec.dist (V (ix2 r c)) (tab C k) := by
  unfold refDist
  have e1 : broadcastInDim S65536x256x4 ![0, 1, 2] bcast_S65536x256x1_S65536x256x4_0_1_2
      (broadcastInDim S65536x256x1 ![0, 1] bcast_S65536x256_S65536x256x1_0_1 V) (ix3 r c k) = V (ix2 r c) := by
    rw [broadcastInDim_apply _ bcast_S65536x256x1_S65536x256x4_0_1_2 _ (ix3 r c k) (ix3 r c 0) (fun a => match a with
      | ⟨0, _⟩ => by show r.val = if (65536 : Nat) = 1 then 0 else r.val; rw [if_neg (by decide)]
      | ⟨1, _⟩ => by show c.val = if (256 : Nat) = 1 then 0 else c.val; rw [if_neg (by decide)]
      | ⟨2, _⟩ => by show 0 = if (1 : Nat) = 1 then 0 else k.val; rw [if_pos rfl])]
    exact broadcastInDim_apply _ bcast_S65536x256_S65536x256x1_0_1 V (ix3 r c 0) (ix2 r c) (fun a => match a with
      | ⟨0, _⟩ => by show r.val = if (65536 : Nat) = 1 then 0 else r.val; rw [if_neg (by decide)]
      | ⟨1, _⟩ => by show c.val = if (256 : Nat) = 1 then 0 else c.val; rw [if_neg (by decide)])
  have e2 : broadcastInDim S65536x256x4 ![0, 1, 2] bcast_S1x1x4_S65536x256x4_0_1_2
      (broadcastInDim S1x1x4 ![2] bcast_S4_S1x1x4_2 C) (ix3 r c k) = C (ix1 k) := by
    rw [broadcastInDim_apply _ bcast_S1x1x4_S65536x256x4_0_1_2 _ (ix3 r c k) (ix3 0 0 k) (fun a => match a with
      | ⟨0, _⟩ => by show 0 = if (1 : Nat) = 1 then 0 else r.val; rw [if_pos rfl]
      | ⟨1, _⟩ => by show 0 = if (1 : Nat) = 1 then 0 else c.val; rw [if_pos rfl]
      | ⟨2, _⟩ => by show k.val = if (4 : Nat) = 1 then 0 else k.val; rw [if_neg (by decide)])]
    exact broadcastInDim_apply _ bcast_S4_S1x1x4_2 C (ix3 0 0 k) (ix1 k) (fun a => match a with
      | ⟨0, _⟩ => by show k.val = if (4 : Nat) = 1 then 0 else k.val; rw [if_neg (by decide)])
  show max (_ - _) (-(_ - _)) = _
  rw [e1, e2]; rfl

/-- The reference's index of a real entry is the place the midpoints choose. -/
theorem refIdx_apply (V : FVec Ideal S65536x256 .f32) (C : FVec Ideal S4 .f32) (hC : Spec.Increasing (tab C)) (r : Fin 65536)
    (c : Fin 256) (hV : ∃ v : ℝ, V (ix2 r c) = (v : EReal)) :
    refArgmin (F := Ideal) (refDist (F := Ideal) V C) (ix2 r c) = Spec.qIdx (tab C) (V (ix2 r c)) := by
  obtain ⟨v, hv⟩ := hV
  rw [Spec.qIdx, Spec.pick_apply, hv]
  refine refArgmin_eq _ r c (Spec.pick (tab C) v id) ?_ fun j => ?_
  · obtain ⟨q, hq⟩ := Spec.qVal_real hC v
    rw [Spec.qVal, Spec.pick_apply] at hq
    rw [refDist_apply, hv, hq, Spec.dist_coe]
    exact EReal.coe_lt_top _
  · rw [refDist_apply, refDist_apply, hv]
    exact Spec.nearest hC v j

/-- A place's word is not negative, nor above three. -/
theorem place_inside (k : Fin 4) : IntOp.cmpi .slt (BitVec.ofNat 32 k.val) 0#32 = 0#1
    ∧ IntOp.andi (IntOp.cmpi .sge (BitVec.ofNat 32 k.val) 0#32) (IntOp.cmpi .sle (BitVec.ofNat 32 k.val) 3#32) = 1#1
    ∧ min (BitVec.ofNat 32 k.val).toInt.toNat (4 - 1) = k.val := by
  revert k; decide

/-- The indices to read at, where they are places. -/
theorem refWrap_apply (I : IVec S65536x256 32) (r : Fin 65536) (c : Fin 256) (z : Fin 1) (k : Fin 4)
    (hI : I (ix2 r c) = BitVec.ofNat 32 k.val) : refWrap I (ix3 r c z) = BitVec.ofNat 32 k.val := by
  unfold refWrap
  rw [broadcastInDim_apply _ bcast_S65536x256_S65536x256x1_0_1 _ (ix3 r c z) (ix2 r c) (fun a => match a with
    | ⟨0, _⟩ => by show r.val = if (65536 : Nat) = 1 then 0 else r.val; rw [if_neg (by decide)]
    | ⟨1, _⟩ => by show c.val = if (256 : Nat) = 1 then 0 else c.val; rw [if_neg (by decide)])]
  show Scalar.select (IntOp.cmpi .slt (I (ix2 r c)) 0#32) _ (I (ix2 r c)) = _
  rw [hI, (place_inside k).1]; rfl

/-- Every index is inside when every index is a place. -/
theorem refInside_apply (I : IVec S65536x256 32) (k : Fin 65536 → Fin 256 → Fin 4)
    (hI : ∀ r c, I (ix2 r c) = BitVec.ofNat 32 (k r c).val) (i : S65536x256.Idx) : refInside (refWrap I) i = 1#1 := by
  refine Host.reduce_andi_one _ _ _ _ i rfl fun q => ?_
  rw [eq_ix3 q]
  show IntOp.andi (IntOp.cmpi .sge (refWrap I (ix3 (q 0) (q 1) (q 2))) 0#32)
    (IntOp.cmpi .sle (refWrap I (ix3 (q 0) (q 1) (q 2))) 3#32) = 1#1
  rw [refWrap_apply I (q 0) (q 1) (q 2) (k (q 0) (q 1)) (hI _ _)]
  exact (place_inside _).2.1

/-- Reading the centroids at places gives the centroids there. -/
theorem refTake_apply (C : FVec Ideal S4 .f32) (I : IVec S65536x256 32) (k : Fin 65536 → Fin 256 → Fin 4)
    (hI : ∀ r c, I (ix2 r c) = BitVec.ofNat 32 (k r c).val) (r : Fin 65536) (c : Fin 256) :
    refTake (F := Ideal) C I (ix2 r c) = tab C (k r c) := by
  unfold refTake
  show Scalar.select (refInside (refWrap I) (ix2 r c)) (Host.gather _ C (refWrap I) (ix2 r c)) _ = _
  rw [refInside_apply I k hI]
  show Host.gather _ C (refWrap I) (ix2 r c) = _
  refine (gather_take_apply (by decide) gather_S4_S65536x256x1_S65536x256_n_0_n_n_0_2_1_wf C (refWrap I) (ix2 r c)).trans ?_
  refine congrArg C (congrArg ix1 (Fin.ext ?_))
  show min (refWrap I (takeIdx (ix2 r c))).toInt.toNat (4 - 1) = (k r c).val
  rw [show takeIdx (ix2 r c) = ix3 r c 0 from funext fun a => match a with | ⟨0, _⟩ => rfl | ⟨1, _⟩ => rfl | ⟨2, _⟩ => rfl,
    refWrap_apply I r c 0 (k r c) (hI r c)]
  exact (place_inside _).2.2

section Results

variable {X : FVec Ideal S65536x256 .f32} {P : FVec Ideal S256x256 .f32} {C D : FVec Ideal S4 .f32}
  (hP : ∀ j k, ∃ p : ℝ, mat P j k = p) (hC : Spec.Increasing (tab C)) (hD : Spec.Increasing (tab D))

include hP hC

/-- The reference's first index. -/
theorem refIdx1_apply (r : Fin 65536) (c : Fin 256) :
    refIdx1 (F := Ideal) X P C (ix2 r c) = Spec.qIdx (tab C) (Spec.rot (row X r) (mat P) c) := by
  have h := refIdx_apply (refRot (F := Ideal) X P) C hC r c (by rw [refRot_apply]; exact Spec.rot_real _ hP c)
  rw [refRot_apply] at h
  exact h

/-- The reference's first centroid. -/
theorem refVal1_apply (r : Fin 65536) (c : Fin 256) :
    refVal1 (F := Ideal) X P C (ix2 r c) = Spec.qVal (tab C) (Spec.rot (row X r) (mat P) c) := by
  unfold refVal1
  rw [refTake_apply C _ (fun r c => Spec.pick (tab C) (Spec.rot (row X r) (mat P) c) id)
    (fun r c => (refIdx1_apply hP hC r c).trans (Spec.pick_apply _ _ _)), Spec.qVal, Spec.pick_apply (t := tab C)]

/-- What the first step leaves. -/
theorem refRes_apply (r : Fin 65536) (c : Fin 256) :
    subf (F := Ideal) (refRot (F := Ideal) X P) (refVal1 (F := Ideal) X P C) (ix2 r c)
      = Spec.res (tab C) (Spec.rot (row X r) (mat P) c) := by
  rw [subf_at, refRot_apply, refVal1_apply hP hC]; rfl

include hD

/-- The reference's second index. -/
theorem refIdx2_apply (r : Fin 65536) (c : Fin 256) :
    refIdx2 (F := Ideal) X P C D (ix2 r c) = Spec.qIdx (tab D) (Spec.res (tab C) (Spec.rot (row X r) (mat P) c)) := by
  have h := refIdx_apply (subf (F := Ideal) (refRot (F := Ideal) X P) (refVal1 (F := Ideal) X P C)) D hD r c (by
    rw [refRes_apply hP hC]
    obtain ⟨v, hv⟩ := Spec.rot_real (row X r) hP c
    rw [hv]; exact Spec.res_real hC v)
  rw [refRes_apply hP hC] at h
  exact h

/-- The reference's rows built back. -/
theorem refBack_apply (r : Fin 65536) (c : Fin 256) :
    refBack (F := Ideal) X P C D (ix2 r c) = Spec.back (row X r) (mat P) (tab C) (tab D) c := by
  unfold refBack
  rw [mulf_at, dot_apply, spread_apply, refNorm_apply]
  unfold Spec.back
  refine congrArg (· * Spec.nrm (row X r)) (Finset.sum_congr rfl fun k _ => ?_)
  refine congrArg (· * mat P k c) ?_
  rw [addf_at, refVal1_apply hP hC, refTake_apply D _ (fun r c => Spec.pick (tab D) (Spec.res (tab C) (Spec.rot (row X r) (mat P) c)) id)
    (fun r c => (refIdx2_apply hP hC hD r c).trans (Spec.pick_apply _ _ _)), ← Spec.pick_apply (t := tab D)]
  rfl

end Results

/-- The reference's norms as a vector. -/
theorem refNormOut_apply (X : FVec Ideal S65536x256 .f32) (r : Fin 65536) :
    refNormOut (F := Ideal) X (ix1 r) = Spec.nrm (row X r) := by
  unfold refNormOut
  rw [shapeCast_apply (refNorm (F := Ideal) X) shapeCasts_S65536x1_S65536 (ix1 r) (ix2 r 0) (by
    rw [Shape.rowMajor_val_two, Shape.rowMajor_val_one]
    show r.val * 1 + 0 = r.val
    omega)]
  exact refNorm_apply X r 0

end Cert.ReferenceIdeal.RefRead
-- ==== Proof.Same.lean ====
/-
  The kernel's four result arrays and the reference's four are the same arrays, on extended reals, when the
  rotation's entries are real and the centroids strictly increasing.
-/
module

public import proofs.«01_k».proof.Proof.Arrays
public import proofs.«01_k».proof.Proof.RefRead

@[expose] public section

noncomputable section

namespace Cert.Same

open Cert.ReferenceIdeal Cert.ReferenceIdeal.RefRun Cert.ReferenceIdeal.RefRead Idealize.ShloMosaic Idealize.ShloMosaic.ValueIdx
open Cert.KernelIdeal.Arrays (backArr placeArr nextArr normArr)

/-- The norms agree on every input. -/
theorem norms (X : FVec Ideal S65536x256 .f32) : refNormOut (F := Ideal) X = normArr X := by
  funext y
  rw [eq_ix1 y]
  exact refNormOut_apply X (y 0)

variable {X : FVec Ideal S65536x256 .f32} {P : FVec Ideal S256x256 .f32} {C D : FVec Ideal S4 .f32}
variable (hP : ∀ j k, ∃ p : ℝ, mat P j k = p) (hC : Spec.Increasing (tab C)) (hD : Spec.Increasing (tab D))
include hP hC

/-- The first step's indices agree. -/
theorem places : refIdx1 (F := Ideal) X P C = placeArr X P C := by
  funext y
  rw [eq_ix2 y]
  exact refIdx1_apply hP hC (y 0) (y 1)

include hD

/-- The second step's indices agree. -/
theorem nexts : refIdx2 (F := Ideal) X P C D = nextArr X P C D := by
  funext y
  rw [eq_ix2 y]
  exact refIdx2_apply hP hC hD (y 0) (y 1)

/-- The rows built back agree. -/
theorem backs : refBack (F := Ideal) X P C D = backArr X P C D := by
  funext y
  rw [eq_ix2 y]
  exact refBack_apply hP hC hD (y 0) (y 1)

end Cert.Same

end
-- ==== Proof.lean ====
/-
  The proof of the certificate's claim: each program's frame, that the idealization rewrites nothing, and that the
  kernel's four results are the reference's four on extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Pre
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference runs, its arguments end unchanged, and it leaves no counter above zero: it declares none. -/
theorem refFrame : @quiescent_ReferenceIdeal Cert.ReferenceIdeal.Gen.facts := fun m ρ _ =>
  θ_run_mono (Cert.ReferenceIdeal.RefRun.run (F := Ideal) m ρ) fun r h =>
    ⟨fun c => (h c).2.2.2.2, sem_eq_zero_of_no_sems (by decide) r.2⟩

/-- From memories agreeing on the arguments, under the precondition, the two programs end with equal results. -/
theorem same : @algebraic_KernelIdeal_ReferenceIdeal_pre_finite_and_increasing Cert.KernelIdeal.Gen.facts
    Cert.ReferenceIdeal.Gen.facts Cert.Pre_finite_and_increasing.Pre.facts := by
  intro m ρ m' ρ' hpre hargs
  refine ⟨_, _, _, _, Cert.KernelIdeal.Arrays.run m ρ,
    θ_run_mono (Cert.ReferenceIdeal.RefRun.run (F := Ideal) m' ρ') fun r h c => ?_⟩
  have hP := Cert.Pre_finite_and_increasing.Pre.real_entries (hpre c).1
  have hC := Cert.Pre_finite_and_increasing.Pre.increasing_fst (hpre c).2.1
  have hD := Cert.Pre_finite_and_increasing.Pre.increasing_snd (hpre c).2.2
  obtain ⟨e0, e1, e2, e3⟩ := hargs c
  obtain ⟨h0, h1, h2, h3, hs⟩ := h c
  rw [e0, e1, e2, e3] at h0
  rw [e0, e1, e2] at h1
  rw [e0, e1, e2, e3] at h2
  rw [e0] at h3
  exact ⟨h0.trans (Cert.Same.backs hP hC hD), h1.trans (Cert.Same.places hP hC), h2.trans (Cert.Same.nexts hP hC hD),
    h3.trans (Cert.Same.norms _), hs⟩

/-- The certificate's claim. -/
theorem claim : Cert.Claim :=
  ⟨Cert.Kernel.Gen.facts, Cert.KernelIdeal.Gen.facts, Cert.ReferenceIdeal.Gen.facts, Cert.Pre_finite_and_increasing.Pre.facts,
    fun m ρ _ => Cert.Kernel.Gen.frame m ρ, fun m ρ _ => Cert.KernelIdeal.Gen.frame m ρ,
    fun m ρ _ => Cert.KernelIdeal.Gen.frame m ρ, refFrame, fun m ρ _ => refFrame m ρ trivial, trivial, same⟩

end Cert.Proof

end
